-- ==== Defs.lean ====
def Pre_Kernel [hPre_indices : Cert.Pre_indices.Facts] (m : (ℓ : Loc Cert.Kernel.nD Cert.Kernel.τ Cert.Kernel.sig) → Buf (Elt Bits) ℓ) : Prop :=
  ∀ c : Dev Cert.Kernel.nD,
    (Cert.Pre_indices.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_indices : Cert.Pre_indices.Facts] (m : (ℓ : Loc Cert.KernelIdeal.nD Cert.KernelIdeal.τ Cert.KernelIdeal.sig) → Buf (Elt Ideal) ℓ) : Prop :=
  ∀ c : Dev Cert.KernelIdeal.nD,
    (Cert.Pre_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_indices : Cert.Pre_indices.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_indices : Cert.Pre_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_indices : Cert.Pre_indices.Facts) (hPre_ranges : Cert.Pre_ranges.Facts),
    quiescent_Kernel (hKernel := hKernel) (hPre_indices := hPre_indices)
    ∧ quiescent_KernelIdeal (hKernelIdeal := hKernelIdeal) (hPre_indices := hPre_indices)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_indices.lean ====
abbrev S64x1024 : Shape := ⟨2, ![64, 1024]⟩
abbrev S32768x1024 : Shape := ⟨2, ![32768, 1024]⟩
abbrev S8388608 : Shape := ⟨1, ![8388608]⟩
abbrev S32768 : Shape := ⟨1, ![32768]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : IVec S64x1024 32) (main_arg1 : FVec F S32768x1024 .f32) (main_arg2 : FVec F S8388608 .f32) (main_arg3 : IVec S32768 32) (main_arg4 : IVec S32768 32) : IVec S_ 1 :=
  let main_c : IVec S_ 32 := constantI S_ 32 0#32
  let main_v0 : IVec S64x1024 32 := broadcastInDim S64x1024 ![] bcast_S_S64x1024 main_c
  let main_v1 : IVec S64x1024 1 := cmpi .sge main_arg0 main_v0
  let main_c_0 : IVec S_ 32 := constantI S_ 32 256#32
  let main_v2 : IVec S64x1024 32 := broadcastInDim S64x1024 ![] bcast_S_S64x1024 main_c_0
  let main_v3 : IVec S64x1024 1 := cmpi .slt main_arg0 main_v2
  let main_v4 : IVec S64x1024 1 := andi main_v1 main_v3
  let main_c_1 : IVec S_ 1 := constantI S_ 1 1#1
  let main_v5 : IVec S_ 1 := (fun x v => Host.reduce IntOp.andi x v reducesTo_S64x1024_S_d0_1 h_S_) main_v4 main_c_1
  let main_c_2 : IVec S_ 32 := constantI S_ 32 0#32
  let main_v6 : IVec S32768 32 := broadcastInDim S32768 ![] bcast_S_S32768 main_c_2
  let main_v7 : IVec S32768 1 := cmpi .sge main_arg3 main_v6
  let main_c_3 : IVec S_ 32 := constantI S_ 32 64#32
  let main_v8 : IVec S32768 32 := broadcastInDim S32768 ![] bcast_S_S32768 main_c_3
  let main_v9 : IVec S32768 1 := cmpi .slt main_arg3 main_v8
  let main_v10 : IVec S32768 1 := andi main_v7 main_v9
  let main_c_4 : IVec S_ 1 := constantI S_ 1 1#1
  let main_v11 : IVec S_ 1 := (fun x v => Host.reduce IntOp.andi x v reducesTo_S32768_S_d0 h_S_) main_v10 main_c_4
  let main_v12 : IVec S_ 1 := andi main_v5 main_v11
  main_v12
-- ==== Pre_ranges.lean ====
abbrev S64x1024 : Shape := ⟨2, ![64, 1024]⟩
abbrev S32768x1024 : Shape := ⟨2, ![32768, 1024]⟩
abbrev S8388608 : Shape := ⟨1, ![8388608]⟩
abbrev S32768 : Shape := ⟨1, ![32768]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn_part1 {F : FTy → Type} [FloatOps F] (main_v12 : IVec S_ 1) (main_v16 : IVec S32768 1) : IVec S_ 1 :=
  let main_c_6 : IVec S_ 1 := constantI S_ 1 1#1
  let main_v17 : IVec S_ 1 := (fun x v => Host.reduce IntOp.andi x v reducesTo_S32768_S_d0 h_S_) main_v16 main_c_6
  let main_v18 : IVec S_ 1 := andi main_v12 main_v17
  main_v18

def fn {F : FTy → Type} [FloatOps F] (main_arg0 : IVec S64x1024 32) (main_arg1 : FVec F S32768x1024 .f32) (main_arg2 : FVec F S8388608 .f32) (main_arg3 : IVec S32768 32) (main_arg4 : IVec S32768 32) : IVec S_ 1 :=
  let main_c : IVec S_ 32 := constantI S_ 32 0#32
  let main_v0 : IVec S64x1024 32 := broadcastInDim S64x1024 ![] bcast_S_S64x1024 main_c
  let main_v1 : IVec S64x1024 1 := cmpi .sge main_arg0 main_v0
  let main_c_0 : IVec S_ 32 := constantI S_ 32 256#32
  let main_v2 : IVec S64x1024 32 := broadcastInDim S64x1024 ![] bcast_S_S64x1024 main_c_0
  let main_v3 : IVec S64x1024 1 := cmpi .slt main_arg0 main_v2
  let main_v4 : IVec S64x1024 1 := andi main_v1 main_v3
  let main_c_1 : IVec S_ 1 := constantI S_ 1 1#1
  let main_v5 : IVec S_ 1 := (fun x v => Host.reduce IntOp.andi x v reducesTo_S64x1024_S_d0_1 h_S_) main_v4 main_c_1
  let main_c_2 : IVec S_ 32 := constantI S_ 32 0#32
  let main_v6 : IVec S32768 32 := broadcastInDim S32768 ![] bcast_S_S32768 main_c_2
  let main_v7 : IVec S32768 1 := cmpi .sge main_arg3 main_v6
  let main_c_3 : IVec S_ 32 := constantI S_ 32 64#32
  let main_v8 : IVec S32768 32 := broadcastInDim S32768 ![] bcast_S_S32768 main_c_3
  let main_v9 : IVec S32768 1 := cmpi .slt main_arg3 main_v8
  let main_v10 : IVec S32768 1 := andi main_v7 main_v9
  let main_c_4 : IVec S_ 1 := constantI S_ 1 1#1
  let main_v11 : IVec S_ 1 := (fun x v => Host.reduce IntOp.andi x v reducesTo_S32768_S_d0 h_S_) main_v10 main_c_4
  let main_v12 : IVec S_ 1 := andi main_v5 main_v11
  let main_v13 : IVec S32768 32 := iotaInDim S32768 32 0
  let main_c_5 : IVec S_ 32 := constantI S_ 32 256#32
  let main_v14 : IVec S32768 32 := broadcastInDim S32768 ![] bcast_S_S32768 main_c_5
  let main_v15 : IVec S32768 32 := muli main_v13 main_v14
  let main_v16 : IVec S32768 1 := cmpi .eq main_arg4 main_v15
  fn_part1 (F := F) main_v12 main_v16
-- ==== Kernel.lean ====
abbrev S64x1024 : Shape := ⟨2, ![64, 1024]⟩
abbrev S32768x1024 : Shape := ⟨2, ![32768, 1024]⟩
abbrev S8388608 : Shape := ⟨1, ![8388608]⟩
abbrev S32768 : Shape := ⟨1, ![32768]⟩
abbrev S32768x256 : Shape := ⟨2, ![32768, 256]⟩
abbrev S2048x256 : Shape := ⟨2, ![2048, 256]⟩
abbrev S65536 : Shape := ⟨1, ![65536]⟩
abbrev S33554432 : Shape := ⟨1, ![33554432]⟩
abbrev S1024 : Shape := ⟨1, ![1024]⟩
abbrev S8192 : Shape := ⟨1, ![8192]⟩
abbrev S_ : Shape := ⟨0, ![]⟩
abbrev S16 : Shape := ⟨1, ![16]⟩

abbrev nBuf : Table → Nat
  | .hbm => 11
  | .local .tc .vmem => 4
  | .local .scVector .vmem => 4
  | _ => 0

abbrev bufTy : (tb : Table) → Fin (nBuf tb) → BufTy
  | .hbm, ⟨0, _⟩ => ⟨S64x1024, .i32⟩
  | .hbm, ⟨1, _⟩ => ⟨S32768x1024, .f32⟩
  | .hbm, ⟨2, _⟩ => ⟨S8388608, .f32⟩
  | .hbm, ⟨3, _⟩ => ⟨S32768, .i32⟩
  | .hbm, ⟨4, _⟩ => ⟨S32768, .i32⟩
  | .hbm, ⟨5, _⟩ => ⟨S32768x256, .f32⟩
  | .hbm, ⟨6, _⟩ => ⟨S32768x256, .f32⟩
  | .hbm, ⟨7, _⟩ => ⟨S65536, .i32⟩
  | .hbm, ⟨8, _⟩ => ⟨S8388608, .f32⟩
  | .hbm, ⟨9, _⟩ => ⟨S33554432, .f32⟩
  | .hbm, ⟨10, _⟩ => ⟨S32768x1024, .f32⟩
  | .local .tc .vmem, ⟨0, _⟩ => ⟨S2048x256, .f32⟩
  | .local .tc .vmem, ⟨1, _⟩ => ⟨S2048x256, .f32⟩
  | .local .tc .vmem, ⟨2, _⟩ => ⟨S2048x256, .f32⟩
  | .local .tc .vmem, ⟨3, _⟩ => ⟨S2048x256, .f32⟩
  | .local .scVector .vmem, ⟨0, _⟩ => ⟨S65536, .i32⟩
  | .local .scVector .vmem, ⟨1, _⟩ => ⟨S1024, .i32⟩
  | .local .scVector .vmem, ⟨2, _⟩ => ⟨S8192, .f32⟩
  | .local .scVector .vmem, ⟨3, _⟩ => ⟨S32768, .f32⟩
  | _, _ => ⟨S64x1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 70 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | _ => false

abbrev sig : RefSig :=
  ofTables nBuf rfl bufTy 4 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v2_scv : Ref sig .scVector := ⟨.hbm, 7, rfl⟩
abbrev main_arg3_scv : Ref sig .scVector := ⟨.hbm, 3, rfl⟩
abbrev main_v3_scv : Ref sig .scVector := ⟨.hbm, 8, rfl⟩
abbrev main_v4_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1_i32 : BitVec 32 := 1#32
  let v3 : BitVec 32 := Scalar.muli v2 c1_i32
  ![v3.toNat]
def k1_off2 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c0_i32
  let c256_i32 : BitVec 32 := 256#32
  let v6 : BitVec 32 := Scalar.muli v5 c256_i32
  ![v6.toNat]
@[reducible] def k1_t1_loop : Scf.Loop 32 :=
  let c0_i32_6 : BitVec 32 := 0#32
  let c1024_i32_7 : BitVec 32 := 1024#32
  let v18 : BitVec 32 := Scalar.addi c0_i32_6 c1024_i32_7
  let c1_i32_8 : BitVec 32 := 1#32
  ⟨c0_i32_6, v18, c1_i32_8⟩

def k1_chk1 (v870 : IVec S16 32) : Prop :=
  (∀ a x, ((![v870] : Fin 1 → IVec S16 32) a x).toNat < S65536.size a)
theorem k1_idx1_inb : ∀ (v870 : IVec S16 32) (k1_hw1 : k1_chk1 v870), ∀ a x, ((![v870] : Fin 1 → IVec S16 32) a x).toNat < S65536.size a := fun v870 k1_hw1 => k1_hw1

def k1_chk2 (v872 : IVec S16 32) : Prop :=
  (∀ a x, ((![v872] : Fin 1 → IVec S16 32) a x).toNat < S8192.size a)
theorem k1_idx2_inb : ∀ (v872 : IVec S16 32) (k1_hw2 : k1_chk2 v872), ∀ a x, ((![v872] : Fin 1 → IVec S16 32) a x).toNat < S8192.size a := fun v872 k1_hw2 => k1_hw2

def k1_chk3 (v875 : IVec S16 32) : Prop :=
  (∀ a x, ((![v875] : Fin 1 → IVec S16 32) a x).toNat < S32768.size a)
theorem k1_idx3_inb : ∀ (v875 : IVec S16 32) (k1_hw3 : k1_chk3 v875), ∀ a x, ((![v875] : Fin 1 → IVec S16 32) a x).toNat < S32768.size a := fun v875 k1_hw3 => k1_hw3
@[reducible] def k1_t2_loop : Scf.Loop 32 :=
  let c0_i32_15 : BitVec 32 := 0#32
  let c1024_i32_16 : BitVec 32 := 1024#32
  let v30 : BitVec 32 := Scalar.addi c0_i32_15 c1024_i32_16
  let c1_i32_17 : BitVec 32 := 1#32
  ⟨c0_i32_15, v30, c1_i32_17⟩

def k1_chk4 (v870 : IVec S16 32) : Prop :=
  (∀ a x, ((![v870] : Fin 1 → IVec S16 32) a x).toNat < S65536.size a)
theorem k1_idx4_inb : ∀ (v870 : IVec S16 32) (k1_hw4 : k1_chk4 v870), ∀ a x, ((![v870] : Fin 1 → IVec S16 32) a x).toNat < S65536.size a := fun v870 k1_hw4 => k1_hw4

def k1_chk5 (v872 : IVec S16 32) : Prop :=
  (∀ a x, ((![v872] : Fin 1 → IVec S16 32) a x).toNat < S8192.size a)
theorem k1_idx5_inb : ∀ (v872 : IVec S16 32) (k1_hw5 : k1_chk5 v872), ∀ a x, ((![v872] : Fin 1 → IVec S16 32) a x).toNat < S8192.size a := fun v872 k1_hw5 => k1_hw5

def k1_chk6 (v875 : IVec S16 32) : Prop :=
  (∀ a x, ((![v875] : Fin 1 → IVec S16 32) a x).toNat < S32768.size a)
theorem k1_idx6_inb : ∀ (v875 : IVec S16 32) (k1_hw6 : k1_chk6 v875), ∀ a x, ((![v875] : Fin 1 → IVec S16 32) a x).toNat < S32768.size a := fun v875 k1_hw6 => k1_hw6
def k1_off3 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c0_i32
  let c1024_i32_19 : BitVec 32 := 1024#32
  let v31 : BitVec 32 := Scalar.muli v5 c1024_i32_19
  ![v31.toNat]
@[reducible] def k1_t3_loop : Scf.Loop 32 :=
  let c0_i32_27 : BitVec 32 := 0#32
  let c1024_i32_28 : BitVec 32 := 1024#32
  let v45 : BitVec 32 := Scalar.addi c0_i32_27 c1024_i32_28
  let c1_i32_29 : BitVec 32 := 1#32
  ⟨c0_i32_27, v45, c1_i32_29⟩

def k1_chk7 (v870 : IVec S16 32) : Prop :=
  (∀ a x, ((![v870] : Fin 1 → IVec S16 32) a x).toNat < S65536.size a)
theorem k1_idx7_inb : ∀ (v870 : IVec S16 32) (k1_hw7 : k1_chk7 v870), ∀ a x, ((![v870] : Fin 1 → IVec S16 32) a x).toNat < S65536.size a := fun v870 k1_hw7 => k1_hw7

def k1_chk8 (v872 : IVec S16 32) : Prop :=
  (∀ a x, ((![v872] : Fin 1 → IVec S16 32) a x).toNat < S8192.size a)
theorem k1_idx8_inb : ∀ (v872 : IVec S16 32) (k1_hw8 : k1_chk8 v872), ∀ a x, ((![v872] : Fin 1 → IVec S16 32) a x).toNat < S8192.size a := fun v872 k1_hw8 => k1_hw8

def k1_chk9 (v875 : IVec S16 32) : Prop :=
  (∀ a x, ((![v875] : Fin 1 → IVec S16 32) a x).toNat < S32768.size a)
theorem k1_idx9_inb : ∀ (v875 : IVec S16 32) (k1_hw9 : k1_chk9 v875), ∀ a x, ((![v875] : Fin 1 → IVec S16 32) a x).toNat < S32768.size a := fun v875 k1_hw9 => k1_hw9
@[reducible] def k1_t4_loop : Scf.Loop 32 :=
  let c0_i32_37 : BitVec 32 := 0#32
  let c1024_i32_38 : BitVec 32 := 1024#32
  let v57 : BitVec 32 := Scalar.addi c0_i32_37 c1024_i32_38
  let c1_i32_39 : BitVec 32 := 1#32
  ⟨c0_i32_37, v57, c1_i32_39⟩

def k1_chk10 (v870 : IVec S16 32) : Prop :=
  (∀ a x, ((![v870] : Fin 1 → IVec S16 32) a x).toNat < S65536.size a)
theorem k1_idx10_inb : ∀ (v870 : IVec S16 32) (k1_hw10 : k1_chk10 v870), ∀ a x, ((![v870] : Fin 1 → IVec S16 32) a x).toNat < S65536.size a := fun v870 k1_hw10 => k1_hw10

def k1_chk11 (v872 : IVec S16 32) : Prop :=
  (∀ a x, ((![v872] : Fin 1 → IVec S16 32) a x).toNat < S8192.size a)
theorem k1_idx11_inb : ∀ (v872 : IVec S16 32) (k1_hw11 : k1_chk11 v872), ∀ a x, ((![v872] : Fin 1 → IVec S16 32) a x).toNat < S8192.size a := fun v872 k1_hw11 => k1_hw11

def k1_chk12 (v875 : IVec S16 32) : Prop :=
  (∀ a x, ((![v875] : Fin 1 → IVec S16 32) a x).toNat < S32768.size a)
theorem k1_idx12_inb : ∀ (v875 : IVec S16 32) (k1_hw12 : k1_chk12 v875), ∀ a x, ((![v875] : Fin 1 → IVec S16 32) a x).toNat < S32768.size a := fun v875 k1_hw12 => k1_hw12
@[reducible] def k1_t5_loop : Scf.Loop 32 :=
  let c0_i32_49 : BitVec 32 := 0#32
  let c1024_i32_50 : BitVec 32 := 1024#32
  let v72 : BitVec 32 := Scalar.addi c0_i32_49 c1024_i32_50
  let c1_i32_51 : BitVec 32 := 1#32
  ⟨c0_i32_49, v72, c1_i32_51⟩

def k1_chk13 (v870 : IVec S16 32) : Prop :=
  (∀ a x, ((![v870] : Fin 1 → IVec S16 32) a x).toNat < S65536.size a)
theorem k1_idx13_inb : ∀ (v870 : IVec S16 32) (k1_hw13 : k1_chk13 v870), ∀ a x, ((![v870] : Fin 1 → IVec S16 32) a x).toNat < S65536.size a := fun v870 k1_hw13 => k1_hw13

def k1_chk14 (v872 : IVec S16 32) : Prop :=
  (∀ a x, ((![v872] : Fin 1 → IVec S16 32) a x).toNat < S8192.size a)
theorem k1_idx14_inb : ∀ (v872 : IVec S16 32) (k1_hw14 : k1_chk14 v872), ∀ a x, ((![v872] : Fin 1 → IVec S16 32) a x).toNat < S8192.size a := fun v872 k1_hw14 => k1_hw14

def k1_chk15 (v875 : IVec S16 32) : Prop :=
  (∀ a x, ((![v875] : Fin 1 → IVec S16 32) a x).toNat < S32768.size a)
theorem k1_idx15_inb : ∀ (v875 : IVec S16 32) (k1_hw15 : k1_chk15 v875), ∀ a x, ((![v875] : Fin 1 → IVec S16 32) a x).toNat < S32768.size a := fun v875 k1_hw15 => k1_hw15
@[reducible] def k1_t6_loop : Scf.Loop 32 :=
  let c0_i32_59 : BitVec 32 := 0#32
  let c1024_i32_60 : BitVec 32 := 1024#32
  let v84 : BitVec 32 := Scalar.addi c0_i32_59 c1024_i32_60
  let c1_i32_61 : BitVec 32 := 1#32
  ⟨c0_i32_59, v84, c1_i32_61⟩

def k1_chk16 (v870 : IVec S16 32) : Prop :=
  (∀ a x, ((![v870] : Fin 1 → IVec S16 32) a x).toNat < S65536.size a)
theorem k1_idx16_inb : ∀ (v870 : IVec S16 32) (k1_hw16 : k1_chk16 v870), ∀ a x, ((![v870] : Fin 1 → IVec S16 32) a x).toNat < S65536.size a := fun v870 k1_hw16 => k1_hw16

def k1_chk17 (v872 : IVec S16 32) : Prop :=
  (∀ a x, ((![v872] : Fin 1 → IVec S16 32) a x).toNat < S8192.size a)
theorem k1_idx17_inb : ∀ (v872 : IVec S16 32) (k1_hw17 : k1_chk17 v872), ∀ a x, ((![v872] : Fin 1 → IVec S16 32) a x).toNat < S8192.size a := fun v872 k1_hw17 => k1_hw17

def k1_chk18 (v875 : IVec S16 32) : Prop :=
  (∀ a x, ((![v875] : Fin 1 → IVec S16 32) a x).toNat < S32768.size a)
theorem k1_idx18_inb : ∀ (v875 : IVec S16 32) (k1_hw18 : k1_chk18 v875), ∀ a x, ((![v875] : Fin 1 → IVec S16 32) a x).toNat < S32768.size a := fun v875 k1_hw18 => k1_hw18
@[reducible] def k1_t7_loop : Scf.Loop 32 :=
  let c0_i32_71 : BitVec 32 := 0#32
  let c1024_i32_72 : BitVec 32 := 1024#32
  let v99 : BitVec 32 := Scalar.addi c0_i32_71 c1024_i32_72
  let c1_i32_73 : BitVec 32 := 1#32
  ⟨c0_i32_71, v99, c1_i32_73⟩

def k1_chk19 (v870 : IVec S16 32) : Prop :=
  (∀ a x, ((![v870] : Fin 1 → IVec S16 32) a x).toNat < S65536.size a)
theorem k1_idx19_inb : ∀ (v870 : IVec S16 32) (k1_hw19 : k1_chk19 v870), ∀ a x, ((![v870] : Fin 1 → IVec S16 32) a x).toNat < S65536.size a := fun v870 k1_hw19 => k1_hw19

def k1_chk20 (v872 : IVec S16 32) : Prop :=
  (∀ a x, ((![v872] : Fin 1 → IVec S16 32) a x).toNat < S8192.size a)
theorem k1_idx20_inb : ∀ (v872 : IVec S16 32) (k1_hw20 : k1_chk20 v872), ∀ a x, ((![v872] : Fin 1 → IVec S16 32) a x).toNat < S8192.size a := fun v872 k1_hw20 => k1_hw20

def k1_chk21 (v875 : IVec S16 32) : Prop :=
  (∀ a x, ((![v875] : Fin 1 → IVec S16 32) a x).toNat < S32768.size a)
theorem k1_idx21_inb : ∀ (v875 : IVec S16 32) (k1_hw21 : k1_chk21 v875), ∀ a x, ((![v875] : Fin 1 → IVec S16 32) a x).toNat < S32768.size a := fun v875 k1_hw21 => k1_hw21
@[reducible] def k1_t8_loop : Scf.Loop 32 :=
  let c0_i32_81 : BitVec 32 := 0#32
  let c1024_i32_82 : BitVec 32 := 1024#32
  let v111 : BitVec 32 := Scalar.addi c0_i32_81 c1024_i32_82
  let c1_i32_83 : BitVec 32 := 1#32
  ⟨c0_i32_81, v111, c1_i32_83⟩

def k1_chk22 (v870 : IVec S16 32) : Prop :=
  (∀ a x, ((![v870] : Fin 1 → IVec S16 32) a x).toNat < S65536.size a)
theorem k1_idx22_inb : ∀ (v870 : IVec S16 32) (k1_hw22 : k1_chk22 v870), ∀ a x, ((![v870] : Fin 1 → IVec S16 32) a x).toNat < S65536.size a := fun v870 k1_hw22 => k1_hw22

def k1_chk23 (v872 : IVec S16 32) : Prop :=
  (∀ a x, ((![v872] : Fin 1 → IVec S16 32) a x).toNat < S8192.size a)
theorem k1_idx23_inb : ∀ (v872 : IVec S16 32) (k1_hw23 : k1_chk23 v872), ∀ a x, ((![v872] : Fin 1 → IVec S16 32) a x).toNat < S8192.size a := fun v872 k1_hw23 => k1_hw23

def k1_chk24 (v875 : IVec S16 32) : Prop :=
  (∀ a x, ((![v875] : Fin 1 → IVec S16 32) a x).toNat < S32768.size a)
theorem k1_idx24_inb : ∀ (v875 : IVec S16 32) (k1_hw24 : k1_chk24 v875), ∀ a x, ((![v875] : Fin 1 → IVec S16 32) a x).toNat < S32768.size a := fun v875 k1_hw24 => k1_hw24
@[reducible] def k1_t9_loop : Scf.Loop 32 :=
  let c0_i32_93 : BitVec 32 := 0#32
  let c1024_i32_94 : BitVec 32 := 1024#32
  let v126 : BitVec 32 := Scalar.addi c0_i32_93 c1024_i32_94
  let c1_i32_95 : BitVec 32 := 1#32
  ⟨c0_i32_93, v126, c1_i32_95⟩

def k1_chk25 (v870 : IVec S16 32) : Prop :=
  (∀ a x, ((![v870] : Fin 1 → IVec S16 32) a x).toNat < S65536.size a)
theorem k1_idx25_inb : ∀ (v870 : IVec S16 32) (k1_hw25 : k1_chk25 v870), ∀ a x, ((![v870] : Fin 1 → IVec S16 32) a x).toNat < S65536.size a := fun v870 k1_hw25 => k1_hw25

def k1_chk26 (v872 : IVec S16 32) : Prop :=
  (∀ a x, ((![v872] : Fin 1 → IVec S16 32) a x).toNat < S8192.size a)
theorem k1_idx26_inb : ∀ (v872 : IVec S16 32) (k1_hw26 : k1_chk26 v872), ∀ a x, ((![v872] : Fin 1 → IVec S16 32) a x).toNat < S8192.size a := fun v872 k1_hw26 => k1_hw26

def k1_chk27 (v875 : IVec S16 32) : Prop :=
  (∀ a x, ((![v875] : Fin 1 → IVec S16 32) a x).toNat < S32768.size a)
theorem k1_idx27_inb : ∀ (v875 : IVec S16 32) (k1_hw27 : k1_chk27 v875), ∀ a x, ((![v875] : Fin 1 → IVec S16 32) a x).toNat < S32768.size a := fun v875 k1_hw27 => k1_hw27
@[reducible] def k1_t10_loop : Scf.Loop 32 :=
  let c0_i32_103 : BitVec 32 := 0#32
  let c1024_i32_104 : BitVec 32 := 1024#32
  let v138 : BitVec 32 := Scalar.addi c0_i32_103 c1024_i32_104
  let c1_i32_105 : BitVec 32 := 1#32
  ⟨c0_i32_103, v138, c1_i32_105⟩

def k1_chk28 (v870 : IVec S16 32) : Prop :=
  (∀ a x, ((![v870] : Fin 1 → IVec S16 32) a x).toNat < S65536.size a)
theorem k1_idx28_inb : ∀ (v870 : IVec S16 32) (k1_hw28 : k1_chk28 v870), ∀ a x, ((![v870] : Fin 1 → IVec S16 32) a x).toNat < S65536.size a := fun v870 k1_hw28 => k1_hw28

def k1_chk29 (v872 : IVec S16 32) : Prop :=
  (∀ a x, ((![v872] : Fin 1 → IVec S16 32) a x).toNat < S8192.size a)
theorem k1_idx29_inb : ∀ (v872 : IVec S16 32) (k1_hw29 : k1_chk29 v872), ∀ a x, ((![v872] : Fin 1 → IVec S16 32) a x).toNat < S8192.size a := fun v872 k1_hw29 => k1_hw29

def k1_chk30 (v875 : IVec S16 32) : Prop :=
  (∀ a x, ((![v875] : Fin 1 → IVec S16 32) a x).toNat < S32768.size a)
theorem k1_idx30_inb : ∀ (v875 : IVec S16 32) (k1_hw30 : k1_chk30 v875), ∀ a x, ((![v875] : Fin 1 → IVec S16 32) a x).toNat < S32768.size a := fun v875 k1_hw30 => k1_hw30
@[reducible] def k1_t11_loop : Scf.Loop 32 :=
  let c0_i32_115 : BitVec 32 := 0#32
  let c1024_i32_116 : BitVec 32 := 1024#32
  let v153 : BitVec 32 := Scalar.addi c0_i32_115 c1024_i32_116
  let c1_i32_117 : BitVec 32 := 1#32
  ⟨c0_i32_115, v153, c1_i32_117⟩

def k1_chk31 (v870 : IVec S16 32) : Prop :=
  (∀ a x, ((![v870] : Fin 1 → IVec S16 32) a x).toNat < S65536.size a)
theorem k1_idx31_inb : ∀ (v870 : IVec S16 32) (k1_hw31 : k1_chk31 v870), ∀ a x, ((![v870] : Fin 1 → IVec S16 32) a x).toNat < S65536.size a := fun v870 k1_hw31 => k1_hw31

def k1_chk32 (v872 : IVec S16 32) : Prop :=
  (∀ a x, ((![v872] : Fin 1 → IVec S16 32) a x).toNat < S8192.size a)
theorem k1_idx32_inb : ∀ (v872 : IVec S16 32) (k1_hw32 : k1_chk32 v872), ∀ a x, ((![v872] : Fin 1 → IVec S16 32) a x).toNat < S8192.size a := fun v872 k1_hw32 => k1_hw32

def k1_chk33 (v875 : IVec S16 32) : Prop :=
  (∀ a x, ((![v875] : Fin 1 → IVec S16 32) a x).toNat < S32768.size a)
theorem k1_idx33_inb : ∀ (v875 : IVec S16 32) (k1_hw33 : k1_chk33 v875), ∀ a x, ((![v875] : Fin 1 → IVec S16 32) a x).toNat < S32768.size a := fun v875 k1_hw33 => k1_hw33
@[reducible] def k1_t12_loop : Scf.Loop 32 :=
  let c0_i32_125 : BitVec 32 := 0#32
  let c1024_i32_126 : BitVec 32 := 1024#32
  let v165 : BitVec 32 := Scalar.addi c0_i32_125 c1024_i32_126
  let c1_i32_127 : BitVec 32 := 1#32
  ⟨c0_i32_125, v165, c1_i32_127⟩

def k1_chk34 (v870 : IVec S16 32) : Prop :=
  (∀ a x, ((![v870] : Fin 1 → IVec S16 32) a x).toNat < S65536.size a)
theorem k1_idx34_inb : ∀ (v870 : IVec S16 32) (k1_hw34 : k1_chk34 v870), ∀ a x, ((![v870] : Fin 1 → IVec S16 32) a x).toNat < S65536.size a := fun v870 k1_hw34 => k1_hw34

def k1_chk35 (v872 : IVec S16 32) : Prop :=
  (∀ a x, ((![v872] : Fin 1 → IVec S16 32) a x).toNat < S8192.size a)
theorem k1_idx35_inb : ∀ (v872 : IVec S16 32) (k1_hw35 : k1_chk35 v872), ∀ a x, ((![v872] : Fin 1 → IVec S16 32) a x).toNat < S8192.size a := fun v872 k1_hw35 => k1_hw35

def k1_chk36 (v875 : IVec S16 32) : Prop :=
  (∀ a x, ((![v875] : Fin 1 → IVec S16 32) a x).toNat < S32768.size a)
theorem k1_idx36_inb : ∀ (v875 : IVec S16 32) (k1_hw36 : k1_chk36 v875), ∀ a x, ((![v875] : Fin 1 → IVec S16 32) a x).toNat < S32768.size a := fun v875 k1_hw36 => k1_hw36
@[reducible] def k1_t13_loop : Scf.Loop 32 :=
  let c0_i32_137 : BitVec 32 := 0#32
  let c1024_i32_138 : BitVec 32 := 1024#32
  let v180 : BitVec 32 := Scalar.addi c0_i32_137 c1024_i32_138
  let c1_i32_139 : BitVec 32 := 1#32
  ⟨c0_i32_137, v180, c1_i32_139⟩

def k1_chk37 (v870 : IVec S16 32) : Prop :=
  (∀ a x, ((![v870] : Fin 1 → IVec S16 32) a x).toNat < S65536.size a)
theorem k1_idx37_inb : ∀ (v870 : IVec S16 32) (k1_hw37 : k1_chk37 v870), ∀ a x, ((![v870] : Fin 1 → IVec S16 32) a x).toNat < S65536.size a := fun v870 k1_hw37 => k1_hw37

def k1_chk38 (v872 : IVec S16 32) : Prop :=
  (∀ a x, ((![v872] : Fin 1 → IVec S16 32) a x).toNat < S8192.size a)
theorem k1_idx38_inb : ∀ (v872 : IVec S16 32) (k1_hw38 : k1_chk38 v872), ∀ a x, ((![v872] : Fin 1 → IVec S16 32) a x).toNat < S8192.size a := fun v872 k1_hw38 => k1_hw38

def k1_chk39 (v875 : IVec S16 32) : Prop :=
  (∀ a x, ((![v875] : Fin 1 → IVec S16 32) a x).toNat < S32768.size a)
theorem k1_idx39_inb : ∀ (v875 : IVec S16 32) (k1_hw39 : k1_chk39 v875), ∀ a x, ((![v875] : Fin 1 → IVec S16 32) a x).toNat < S32768.size a := fun v875 k1_hw39 => k1_hw39
@[reducible] def k1_t14_loop : Scf.Loop 32 :=
  let c0_i32_147 : BitVec 32 := 0#32
  let c1024_i32_148 : BitVec 32 := 1024#32
  let v192 : BitVec 32 := Scalar.addi c0_i32_147 c1024_i32_148
  let c1_i32_149 : BitVec 32 := 1#32
  ⟨c0_i32_147, v192, c1_i32_149⟩

def k1_chk40 (v870 : IVec S16 32) : Prop :=
  (∀ a x, ((![v870] : Fin 1 → IVec S16 32) a x).toNat < S65536.size a)
theorem k1_idx40_inb : ∀ (v870 : IVec S16 32) (k1_hw40 : k1_chk40 v870), ∀ a x, ((![v870] : Fin 1 → IVec S16 32) a x).toNat < S65536.size a := fun v870 k1_hw40 => k1_hw40

def k1_chk41 (v872 : IVec S16 32) : Prop :=
  (∀ a x, ((![v872] : Fin 1 → IVec S16 32) a x).toNat < S8192.size a)
theorem k1_idx41_inb : ∀ (v872 : IVec S16 32) (k1_hw41 : k1_chk41 v872), ∀ a x, ((![v872] : Fin 1 → IVec S16 32) a x).toNat < S8192.size a := fun v872 k1_hw41 => k1_hw41

def k1_chk42 (v875 : IVec S16 32) : Prop :=
  (∀ a x, ((![v875] : Fin 1 → IVec S16 32) a x).toNat < S32768.size a)
theorem k1_idx42_inb : ∀ (v875 : IVec S16 32) (k1_hw42 : k1_chk42 v875), ∀ a x, ((![v875] : Fin 1 → IVec S16 32) a x).toNat < S32768.size a := fun v875 k1_hw42 => k1_hw42
@[reducible] def k1_t15_loop : Scf.Loop 32 :=
  let c0_i32_159 : BitVec 32 := 0#32
  let c1024_i32_160 : BitVec 32 := 1024#32
  let v207 : BitVec 32 := Scalar.addi c0_i32_159 c1024_i32_160
  let c1_i32_161 : BitVec 32 := 1#32
  ⟨c0_i32_159, v207, c1_i32_161⟩

def k1_chk43 (v870 : IVec S16 32) : Prop :=
  (∀ a x, ((![v870] : Fin 1 → IVec S16 32) a x).toNat < S65536.size a)
theorem k1_idx43_inb : ∀ (v870 : IVec S16 32) (k1_hw43 : k1_chk43 v870), ∀ a x, ((![v870] : Fin 1 → IVec S16 32) a x).toNat < S65536.size a := fun v870 k1_hw43 => k1_hw43

def k1_chk44 (v872 : IVec S16 32) : Prop :=
  (∀ a x, ((![v872] : Fin 1 → IVec S16 32) a x).toNat < S8192.size a)
theorem k1_idx44_inb : ∀ (v872 : IVec S16 32) (k1_hw44 : k1_chk44 v872), ∀ a x, ((![v872] : Fin 1 → IVec S16 32) a x).toNat < S8192.size a := fun v872 k1_hw44 => k1_hw44

def k1_chk45 (v875 : IVec S16 32) : Prop :=
  (∀ a x, ((![v875] : Fin 1 → IVec S16 32) a x).toNat < S32768.size a)
theorem k1_idx45_inb : ∀ (v875 : IVec S16 32) (k1_hw45 : k1_chk45 v875), ∀ a x, ((![v875] : Fin 1 → IVec S16 32) a x).toNat < S32768.size a := fun v875 k1_hw45 => k1_hw45
@[reducible] def k1_t16_loop : Scf.Loop 32 :=
  let c0_i32_169 : BitVec 32 := 0#32
  let c1024_i32_170 : BitVec 32 := 1024#32
  let v219 : BitVec 32 := Scalar.addi c0_i32_169 c1024_i32_170
  let c1_i32_171 : BitVec 32 := 1#32
  ⟨c0_i32_169, v219, c1_i32_171⟩

def k1_chk46 (v870 : IVec S16 32) : Prop :=
  (∀ a x, ((![v870] : Fin 1 → IVec S16 32) a x).toNat < S65536.size a)
theorem k1_idx46_inb : ∀ (v870 : IVec S16 32) (k1_hw46 : k1_chk46 v870), ∀ a x, ((![v870] : Fin 1 → IVec S16 32) a x).toNat < S65536.size a := fun v870 k1_hw46 => k1_hw46

def k1_chk47 (v872 : IVec S16 32) : Prop :=
  (∀ a x, ((![v872] : Fin 1 → IVec S16 32) a x).toNat < S8192.size a)
theorem k1_idx47_inb : ∀ (v872 : IVec S16 32) (k1_hw47 : k1_chk47 v872), ∀ a x, ((![v872] : Fin 1 → IVec S16 32) a x).toNat < S8192.size a := fun v872 k1_hw47 => k1_hw47

def k1_chk48 (v875 : IVec S16 32) : Prop :=
  (∀ a x, ((![v875] : Fin 1 → IVec S16 32) a x).toNat < S32768.size a)
theorem k1_idx48_inb : ∀ (v875 : IVec S16 32) (k1_hw48 : k1_chk48 v875), ∀ a x, ((![v875] : Fin 1 → IVec S16 32) a x).toNat < S32768.size a := fun v875 k1_hw48 => k1_hw48
@[reducible] def k1_t17_loop : Scf.Loop 32 :=
  let c0_i32_182 : BitVec 32 := 0#32
  let c1024_i32_183 : BitVec 32 := 1024#32
  let v234 : BitVec 32 := Scalar.addi c0_i32_182 c1024_i32_183
  let c1_i32_184 : BitVec 32 := 1#32
  ⟨c0_i32_182, v234, c1_i32_184⟩

def k1_chk49 (v870 : IVec S16 32) : Prop :=
  (∀ a x, ((![v870] : Fin 1 → IVec S16 32) a x).toNat < S65536.size a)
theorem k1_idx49_inb : ∀ (v870 : IVec S16 32) (k1_hw49 : k1_chk49 v870), ∀ a x, ((![v870] : Fin 1 → IVec S16 32) a x).toNat < S65536.size a := fun v870 k1_hw49 => k1_hw49

def k1_chk50 (v872 : IVec S16 32) : Prop :=
  (∀ a x, ((![v872] : Fin 1 → IVec S16 32) a x).toNat < S8192.size a)
theorem k1_idx50_inb : ∀ (v872 : IVec S16 32) (k1_hw50 : k1_chk50 v872), ∀ a x, ((![v872] : Fin 1 → IVec S16 32) a x).toNat < S8192.size a := fun v872 k1_hw50 => k1_hw50

def k1_chk51 (v875 : IVec S16 32) : Prop :=
  (∀ a x, ((![v875] : Fin 1 → IVec S16 32) a x).toNat < S32768.size a)
theorem k1_idx51_inb : ∀ (v875 : IVec S16 32) (k1_hw51 : k1_chk51 v875), ∀ a x, ((![v875] : Fin 1 → IVec S16 32) a x).toNat < S32768.size a := fun v875 k1_hw51 => k1_hw51
@[reducible] def k1_t18_loop : Scf.Loop 32 :=
  let c0_i32_192 : BitVec 32 := 0#32
  let c1024_i32_193 : BitVec 32 := 1024#32
  let v246 : BitVec 32 := Scalar.addi c0_i32_192 c1024_i32_193
  let c1_i32_194 : BitVec 32 := 1#32
  ⟨c0_i32_192, v246, c1_i32_194⟩

def k1_chk52 (v870 : IVec S16 32) : Prop :=
  (∀ a x, ((![v870] : Fin 1 → IVec S16 32) a x).toNat < S65536.size a)
theorem k1_idx52_inb : ∀ (v870 : IVec S16 32) (k1_hw52 : k1_chk52 v870), ∀ a x, ((![v870] : Fin 1 → IVec S16 32) a x).toNat < S65536.size a := fun v870 k1_hw52 => k1_hw52

def k1_chk53 (v872 : IVec S16 32) : Prop :=
  (∀ a x, ((![v872] : Fin 1 → IVec S16 32) a x).toNat < S8192.size a)
theorem k1_idx53_inb : ∀ (v872 : IVec S16 32) (k1_hw53 : k1_chk53 v872), ∀ a x, ((![v872] : Fin 1 → IVec S16 32) a x).toNat < S8192.size a := fun v872 k1_hw53 => k1_hw53

def k1_chk54 (v875 : IVec S16 32) : Prop :=
  (∀ a x, ((![v875] : Fin 1 → IVec S16 32) a x).toNat < S32768.size a)
theorem k1_idx54_inb : ∀ (v875 : IVec S16 32) (k1_hw54 : k1_chk54 v875), ∀ a x, ((![v875] : Fin 1 → IVec S16 32) a x).toNat < S32768.size a := fun v875 k1_hw54 => k1_hw54
@[reducible] def k1_t19_loop : Scf.Loop 32 :=
  let c0_i32_204 : BitVec 32 := 0#32
  let c1024_i32_205 : BitVec 32 := 1024#32
  let v261 : BitVec 32 := Scalar.addi c0_i32_204 c1024_i32_205
  let c1_i32_206 : BitVec 32 := 1#32
  ⟨c0_i32_204, v261, c1_i32_206⟩

def k1_chk55 (v870 : IVec S16 32) : Prop :=
  (∀ a x, ((![v870] : Fin 1 → IVec S16 32) a x).toNat < S65536.size a)
theorem k1_idx55_inb : ∀ (v870 : IVec S16 32) (k1_hw55 : k1_chk55 v870), ∀ a x, ((![v870] : Fin 1 → IVec S16 32) a x).toNat < S65536.size a := fun v870 k1_hw55 => k1_hw55

def k1_chk56 (v872 : IVec S16 32) : Prop :=
  (∀ a x, ((![v872] : Fin 1 → IVec S16 32) a x).toNat < S8192.size a)
theorem k1_idx56_inb : ∀ (v872 : IVec S16 32) (k1_hw56 : k1_chk56 v872), ∀ a x, ((![v872] : Fin 1 → IVec S16 32) a x).toNat < S8192.size a := fun v872 k1_hw56 => k1_hw56

def k1_chk57 (v875 : IVec S16 32) : Prop :=
  (∀ a x, ((![v875] : Fin 1 → IVec S16 32) a x).toNat < S32768.size a)
theorem k1_idx57_inb : ∀ (v875 : IVec S16 32) (k1_hw57 : k1_chk57 v875), ∀ a x, ((![v875] : Fin 1 → IVec S16 32) a x).toNat < S32768.size a := fun v875 k1_hw57 => k1_hw57
@[reducible] def k1_t20_loop : Scf.Loop 32 :=
  let c0_i32_214 : BitVec 32 := 0#32
  let c1024_i32_215 : BitVec 32 := 1024#32
  let v273 : BitVec 32 := Scalar.addi c0_i32_214 c1024_i32_215
  let c1_i32_216 : BitVec 32 := 1#32
  ⟨c0_i32_214, v273, c1_i32_216⟩

def k1_chk58 (v870 : IVec S16 32) : Prop :=
  (∀ a x, ((![v870] : Fin 1 → IVec S16 32) a x).toNat < S65536.size a)
theorem k1_idx58_inb : ∀ (v870 : IVec S16 32) (k1_hw58 : k1_chk58 v870), ∀ a x, ((![v870] : Fin 1 → IVec S16 32) a x).toNat < S65536.size a := fun v870 k1_hw58 => k1_hw58

def k1_chk59 (v872 : IVec S16 32) : Prop :=
  (∀ a x, ((![v872] : Fin 1 → IVec S16 32) a x).toNat < S8192.size a)
theorem k1_idx59_inb : ∀ (v872 : IVec S16 32) (k1_hw59 : k1_chk59 v872), ∀ a x, ((![v872] : Fin 1 → IVec S16 32) a x).toNat < S8192.size a := fun v872 k1_hw59 => k1_hw59

def k1_chk60 (v875 : IVec S16 32) : Prop :=
  (∀ a x, ((![v875] : Fin 1 → IVec S16 32) a x).toNat < S32768.size a)
theorem k1_idx60_inb : ∀ (v875 : IVec S16 32) (k1_hw60 : k1_chk60 v875), ∀ a x, ((![v875] : Fin 1 → IVec S16 32) a x).toNat < S32768.size a := fun v875 k1_hw60 => k1_hw60
@[reducible] def k1_t21_loop : Scf.Loop 32 :=
  let c0_i32_226 : BitVec 32 := 0#32
  let c1024_i32_227 : BitVec 32 := 1024#32
  let v288 : BitVec 32 := Scalar.addi c0_i32_226 c1024_i32_227
  let c1_i32_228 : BitVec 32 := 1#32
  ⟨c0_i32_226, v288, c1_i32_228⟩

def k1_chk61 (v870 : IVec S16 32) : Prop :=
  (∀ a x, ((![v870] : Fin 1 → IVec S16 32) a x).toNat < S65536.size a)
theorem k1_idx61_inb : ∀ (v870 : IVec S16 32) (k1_hw61 : k1_chk61 v870), ∀ a x, ((![v870] : Fin 1 → IVec S16 32) a x).toNat < S65536.size a := fun v870 k1_hw61 => k1_hw61

def k1_chk62 (v872 : IVec S16 32) : Prop :=
  (∀ a x, ((![v872] : Fin 1 → IVec S16 32) a x).toNat < S8192.size a)
theorem k1_idx62_inb : ∀ (v872 : IVec S16 32) (k1_hw62 : k1_chk62 v872), ∀ a x, ((![v872] : Fin 1 → IVec S16 32) a x).toNat < S8192.size a := fun v872 k1_hw62 => k1_hw62

def k1_chk63 (v875 : IVec S16 32) : Prop :=
  (∀ a x, ((![v875] : Fin 1 → IVec S16 32) a x).toNat < S32768.size a)
theorem k1_idx63_inb : ∀ (v875 : IVec S16 32) (k1_hw63 : k1_chk63 v875), ∀ a x, ((![v875] : Fin 1 → IVec S16 32) a x).toNat < S32768.size a := fun v875 k1_hw63 => k1_hw63
@[reducible] def k1_t22_loop : Scf.Loop 32 :=
  let c0_i32_236 : BitVec 32 := 0#32
  let c1024_i32_237 : BitVec 32 := 1024#32
  let v300 : BitVec 32 := Scalar.addi c0_i32_236 c1024_i32_237
  let c1_i32_238 : BitVec 32 := 1#32
  ⟨c0_i32_236, v300, c1_i32_238⟩

def k1_chk64 (v870 : IVec S16 32) : Prop :=
  (∀ a x, ((![v870] : Fin 1 → IVec S16 32) a x).toNat < S65536.size a)
theorem k1_idx64_inb : ∀ (v870 : IVec S16 32) (k1_hw64 : k1_chk64 v870), ∀ a x, ((![v870] : Fin 1 → IVec S16 32) a x).toNat < S65536.size a := fun v870 k1_hw64 => k1_hw64

def k1_chk65 (v872 : IVec S16 32) : Prop :=
  (∀ a x, ((![v872] : Fin 1 → IVec S16 32) a x).toNat < S8192.size a)
theorem k1_idx65_inb : ∀ (v872 : IVec S16 32) (k1_hw65 : k1_chk65 v872), ∀ a x, ((![v872] : Fin 1 → IVec S16 32) a x).toNat < S8192.size a := fun v872 k1_hw65 => k1_hw65

def k1_chk66 (v875 : IVec S16 32) : Prop :=
  (∀ a x, ((![v875] : Fin 1 → IVec S16 32) a x).toNat < S32768.size a)
theorem k1_idx66_inb : ∀ (v875 : IVec S16 32) (k1_hw66 : k1_chk66 v875), ∀ a x, ((![v875] : Fin 1 → IVec S16 32) a x).toNat < S32768.size a := fun v875 k1_hw66 => k1_hw66
@[reducible] def k1_t23_loop : Scf.Loop 32 :=
  let c0_i32_248 : BitVec 32 := 0#32
  let c1024_i32_249 : BitVec 32 := 1024#32
  let v315 : BitVec 32 := Scalar.addi c0_i32_248 c1024_i32_249
  let c1_i32_250 : BitVec 32 := 1#32
  ⟨c0_i32_248, v315, c1_i32_250⟩

def k1_chk67 (v870 : IVec S16 32) : Prop :=
  (∀ a x, ((![v870] : Fin 1 → IVec S16 32) a x).toNat < S65536.size a)
theorem k1_idx67_inb : ∀ (v870 : IVec S16 32) (k1_hw67 : k1_chk67 v870), ∀ a x, ((![v870] : Fin 1 → IVec S16 32) a x).toNat < S65536.size a := fun v870 k1_hw67 => k1_hw67

def k1_chk68 (v872 : IVec S16 32) : Prop :=
  (∀ a x, ((![v872] : Fin 1 → IVec S16 32) a x).toNat < S8192.size a)
theorem k1_idx68_inb : ∀ (v872 : IVec S16 32) (k1_hw68 : k1_chk68 v872), ∀ a x, ((![v872] : Fin 1 → IVec S16 32) a x).toNat < S8192.size a := fun v872 k1_hw68 => k1_hw68

def k1_chk69 (v875 : IVec S16 32) : Prop :=
  (∀ a x, ((![v875] : Fin 1 → IVec S16 32) a x).toNat < S32768.size a)
theorem k1_idx69_inb : ∀ (v875 : IVec S16 32) (k1_hw69 : k1_chk69 v875), ∀ a x, ((![v875] : Fin 1 → IVec S16 32) a x).toNat < S32768.size a := fun v875 k1_hw69 => k1_hw69
@[reducible] def k1_t24_loop : Scf.Loop 32 :=
  let c0_i32_258 : BitVec 32 := 0#32
  let c1024_i32_259 : BitVec 32 := 1024#32
  let v327 : BitVec 32 := Scalar.addi c0_i32_258 c1024_i32_259
  let c1_i32_260 : BitVec 32 := 1#32
  ⟨c0_i32_258, v327, c1_i32_260⟩

def k1_chk70 (v870 : IVec S16 32) : Prop :=
  (∀ a x, ((![v870] : Fin 1 → IVec S16 32) a x).toNat < S65536.size a)
theorem k1_idx70_inb : ∀ (v870 : IVec S16 32) (k1_hw70 : k1_chk70 v870), ∀ a x, ((![v870] : Fin 1 → IVec S16 32) a x).toNat < S65536.size a := fun v870 k1_hw70 => k1_hw70

def k1_chk71 (v872 : IVec S16 32) : Prop :=
  (∀ a x, ((![v872] : Fin 1 → IVec S16 32) a x).toNat < S8192.size a)
theorem k1_idx71_inb : ∀ (v872 : IVec S16 32) (k1_hw71 : k1_chk71 v872), ∀ a x, ((![v872] : Fin 1 → IVec S16 32) a x).toNat < S8192.size a := fun v872 k1_hw71 => k1_hw71

def k1_chk72 (v875 : IVec S16 32) : Prop :=
  (∀ a x, ((![v875] : Fin 1 → IVec S16 32) a x).toNat < S32768.size a)
theorem k1_idx72_inb : ∀ (v875 : IVec S16 32) (k1_hw72 : k1_chk72 v875), ∀ a x, ((![v875] : Fin 1 → IVec S16 32) a x).toNat < S32768.size a := fun v875 k1_hw72 => k1_hw72
@[reducible] def k1_t25_loop : Scf.Loop 32 :=
  let c0_i32_270 : BitVec 32 := 0#32
  let c1024_i32_271 : BitVec 32 := 1024#32
  let v342 : BitVec 32 := Scalar.addi c0_i32_270 c1024_i32_271
  let c1_i32_272 : BitVec 32 := 1#32
  ⟨c0_i32_270, v342, c1_i32_272⟩

def k1_chk73 (v870 : IVec S16 32) : Prop :=
  (∀ a x, ((![v870] : Fin 1 → IVec S16 32) a x).toNat < S65536.size a)
theorem k1_idx73_inb : ∀ (v870 : IVec S16 32) (k1_hw73 : k1_chk73 v870), ∀ a x, ((![v870] : Fin 1 → IVec S16 32) a x).toNat < S65536.size a := fun v870 k1_hw73 => k1_hw73

def k1_chk74 (v872 : IVec S16 32) : Prop :=
  (∀ a x, ((![v872] : Fin 1 → IVec S16 32) a x).toNat < S8192.size a)
theorem k1_idx74_inb : ∀ (v872 : IVec S16 32) (k1_hw74 : k1_chk74 v872), ∀ a x, ((![v872] : Fin 1 → IVec S16 32) a x).toNat < S8192.size a := fun v872 k1_hw74 => k1_hw74

def k1_chk75 (v875 : IVec S16 32) : Prop :=
  (∀ a x, ((![v875] : Fin 1 → IVec S16 32) a x).toNat < S32768.size a)
theorem k1_idx75_inb : ∀ (v875 : IVec S16 32) (k1_hw75 : k1_chk75 v875), ∀ a x, ((![v875] : Fin 1 → IVec S16 32) a x).toNat < S32768.size a := fun v875 k1_hw75 => k1_hw75
@[reducible] def k1_t26_loop : Scf.Loop 32 :=
  let c0_i32_280 : BitVec 32 := 0#32
  let c1024_i32_281 : BitVec 32 := 1024#32
  let v354 : BitVec 32 := Scalar.addi c0_i32_280 c1024_i32_281
  let c1_i32_282 : BitVec 32 := 1#32
  ⟨c0_i32_280, v354, c1_i32_282⟩

def k1_chk76 (v870 : IVec S16 32) : Prop :=
  (∀ a x, ((![v870] : Fin 1 → IVec S16 32) a x).toNat < S65536.size a)
theorem k1_idx76_inb : ∀ (v870 : IVec S16 32) (k1_hw76 : k1_chk76 v870), ∀ a x, ((![v870] : Fin 1 → IVec S16 32) a x).toNat < S65536.size a := fun v870 k1_hw76 => k1_hw76

def k1_chk77 (v872 : IVec S16 32) : Prop :=
  (∀ a x, ((![v872] : Fin 1 → IVec S16 32) a x).toNat < S8192.size a)
theorem k1_idx77_inb : ∀ (v872 : IVec S16 32) (k1_hw77 : k1_chk77 v872), ∀ a x, ((![v872] : Fin 1 → IVec S16 32) a x).toNat < S8192.size a := fun v872 k1_hw77 => k1_hw77

def k1_chk78 (v875 : IVec S16 32) : Prop :=
  (∀ a x, ((![v875] : Fin 1 → IVec S16 32) a x).toNat < S32768.size a)
theorem k1_idx78_inb : ∀ (v875 : IVec S16 32) (k1_hw78 : k1_chk78 v875), ∀ a x, ((![v875] : Fin 1 → IVec S16 32) a x).toNat < S32768.size a := fun v875 k1_hw78 => k1_hw78
@[reducible] def k1_t27_loop : Scf.Loop 32 :=
  let c0_i32_292 : BitVec 32 := 0#32
  let c1024_i32_293 : BitVec 32 := 1024#32
  let v369 : BitVec 32 := Scalar.addi c0_i32_292 c1024_i32_293
  let c1_i32_294 : BitVec 32 := 1#32
  ⟨c0_i32_292, v369, c1_i32_294⟩

def k1_chk79 (v870 : IVec S16 32) : Prop :=
  (∀ a x, ((![v870] : Fin 1 → IVec S16 32) a x).toNat < S65536.size a)
theorem k1_idx79_inb : ∀ (v870 : IVec S16 32) (k1_hw79 : k1_chk79 v870), ∀ a x, ((![v870] : Fin 1 → IVec S16 32) a x).toNat < S65536.size a := fun v870 k1_hw79 => k1_hw79

def k1_chk80 (v872 : IVec S16 32) : Prop :=
  (∀ a x, ((![v872] : Fin 1 → IVec S16 32) a x).toNat < S8192.size a)
theorem k1_idx80_inb : ∀ (v872 : IVec S16 32) (k1_hw80 : k1_chk80 v872), ∀ a x, ((![v872] : Fin 1 → IVec S16 32) a x).toNat < S8192.size a := fun v872 k1_hw80 => k1_hw80

def k1_chk81 (v875 : IVec S16 32) : Prop :=
  (∀ a x, ((![v875] : Fin 1 → IVec S16 32) a x).toNat < S32768.size a)
theorem k1_idx81_inb : ∀ (v875 : IVec S16 32) (k1_hw81 : k1_chk81 v875), ∀ a x, ((![v875] : Fin 1 → IVec S16 32) a x).toNat < S32768.size a := fun v875 k1_hw81 => k1_hw81
@[reducible] def k1_t28_loop : Scf.Loop 32 :=
  let c0_i32_302 : BitVec 32 := 0#32
  let c1024_i32_303 : BitVec 32 := 1024#32
  let v381 : BitVec 32 := Scalar.addi c0_i32_302 c1024_i32_303
  let c1_i32_304 : BitVec 32 := 1#32
  ⟨c0_i32_302, v381, c1_i32_304⟩

def k1_chk82 (v870 : IVec S16 32) : Prop :=
  (∀ a x, ((![v870] : Fin 1 → IVec S16 32) a x).toNat < S65536.size a)
theorem k1_idx82_inb : ∀ (v870 : IVec S16 32) (k1_hw82 : k1_chk82 v870), ∀ a x, ((![v870] : Fin 1 → IVec S16 32) a x).toNat < S65536.size a := fun v870 k1_hw82 => k1_hw82

def k1_chk83 (v872 : IVec S16 32) : Prop :=
  (∀ a x, ((![v872] : Fin 1 → IVec S16 32) a x).toNat < S8192.size a)
theorem k1_idx83_inb : ∀ (v872 : IVec S16 32) (k1_hw83 : k1_chk83 v872), ∀ a x, ((![v872] : Fin 1 → IVec S16 32) a x).toNat < S8192.size a := fun v872 k1_hw83 => k1_hw83

def k1_chk84 (v875 : IVec S16 32) : Prop :=
  (∀ a x, ((![v875] : Fin 1 → IVec S16 32) a x).toNat < S32768.size a)
theorem k1_idx84_inb : ∀ (v875 : IVec S16 32) (k1_hw84 : k1_chk84 v875), ∀ a x, ((![v875] : Fin 1 → IVec S16 32) a x).toNat < S32768.size a := fun v875 k1_hw84 => k1_hw84
@[reducible] def k1_t29_loop : Scf.Loop 32 :=
  let c0_i32_314 : BitVec 32 := 0#32
  let c1024_i32_315 : BitVec 32 := 1024#32
  let v396 : BitVec 32 := Scalar.addi c0_i32_314 c1024_i32_315
  let c1_i32_316 : BitVec 32 := 1#32
  ⟨c0_i32_314, v396, c1_i32_316⟩

def k1_chk85 (v870 : IVec S16 32) : Prop :=
  (∀ a x, ((![v870] : Fin 1 → IVec S16 32) a x).toNat < S65536.size a)
theorem k1_idx85_inb : ∀ (v870 : IVec S16 32) (k1_hw85 : k1_chk85 v870), ∀ a x, ((![v870] : Fin 1 → IVec S16 32) a x).toNat < S65536.size a := fun v870 k1_hw85 => k1_hw85

def k1_chk86 (v872 : IVec S16 32) : Prop :=
  (∀ a x, ((![v872] : Fin 1 → IVec S16 32) a x).toNat < S8192.size a)
theorem k1_idx86_inb : ∀ (v872 : IVec S16 32) (k1_hw86 : k1_chk86 v872), ∀ a x, ((![v872] : Fin 1 → IVec S16 32) a x).toNat < S8192.size a := fun v872 k1_hw86 => k1_hw86

def k1_chk87 (v875 : IVec S16 32) : Prop :=
  (∀ a x, ((![v875] : Fin 1 → IVec S16 32) a x).toNat < S32768.size a)
theorem k1_idx87_inb : ∀ (v875 : IVec S16 32) (k1_hw87 : k1_chk87 v875), ∀ a x, ((![v875] : Fin 1 → IVec S16 32) a x).toNat < S32768.size a := fun v875 k1_hw87 => k1_hw87
@[reducible] def k1_t30_loop : Scf.Loop 32 :=
  let c0_i32_324 : BitVec 32 := 0#32
  let c1024_i32_325 : BitVec 32 := 1024#32
  let v408 : BitVec 32 := Scalar.addi c0_i32_324 c1024_i32_325
  let c1_i32_326 : BitVec 32 := 1#32
  ⟨c0_i32_324, v408, c1_i32_326⟩

def k1_chk88 (v870 : IVec S16 32) : Prop :=
  (∀ a x, ((![v870] : Fin 1 → IVec S16 32) a x).toNat < S65536.size a)
theorem k1_idx88_inb : ∀ (v870 : IVec S16 32) (k1_hw88 : k1_chk88 v870), ∀ a x, ((![v870] : Fin 1 → IVec S16 32) a x).toNat < S65536.size a := fun v870 k1_hw88 => k1_hw88

def k1_chk89 (v872 : IVec S16 32) : Prop :=
  (∀ a x, ((![v872] : Fin 1 → IVec S16 32) a x).toNat < S8192.size a)
theorem k1_idx89_inb : ∀ (v872 : IVec S16 32) (k1_hw89 : k1_chk89 v872), ∀ a x, ((![v872] : Fin 1 → IVec S16 32) a x).toNat < S8192.size a := fun v872 k1_hw89 => k1_hw89

def k1_chk90 (v875 : IVec S16 32) : Prop :=
  (∀ a x, ((![v875] : Fin 1 → IVec S16 32) a x).toNat < S32768.size a)
theorem k1_idx90_inb : ∀ (v875 : IVec S16 32) (k1_hw90 : k1_chk90 v875), ∀ a x, ((![v875] : Fin 1 → IVec S16 32) a x).toNat < S32768.size a := fun v875 k1_hw90 => k1_hw90
@[reducible] def k1_t31_loop : Scf.Loop 32 :=
  let c0_i32_336 : BitVec 32 := 0#32
  let c1024_i32_337 : BitVec 32 := 1024#32
  let v423 : BitVec 32 := Scalar.addi c0_i32_336 c1024_i32_337
  let c1_i32_338 : BitVec 32 := 1#32
  ⟨c0_i32_336, v423, c1_i32_338⟩

def k1_chk91 (v870 : IVec S16 32) : Prop :=
  (∀ a x, ((![v870] : Fin 1 → IVec S16 32) a x).toNat < S65536.size a)
theorem k1_idx91_inb : ∀ (v870 : IVec S16 32) (k1_hw91 : k1_chk91 v870), ∀ a x, ((![v870] : Fin 1 → IVec S16 32) a x).toNat < S65536.size a := fun v870 k1_hw91 => k1_hw91

def k1_chk92 (v872 : IVec S16 32) : Prop :=
  (∀ a x, ((![v872] : Fin 1 → IVec S16 32) a x).toNat < S8192.size a)
theorem k1_idx92_inb : ∀ (v872 : IVec S16 32) (k1_hw92 : k1_chk92 v872), ∀ a x, ((![v872] : Fin 1 → IVec S16 32) a x).toNat < S8192.size a := fun v872 k1_hw92 => k1_hw92

def k1_chk93 (v875 : IVec S16 32) : Prop :=
  (∀ a x, ((![v875] : Fin 1 → IVec S16 32) a x).toNat < S32768.size a)
theorem k1_idx93_inb : ∀ (v875 : IVec S16 32) (k1_hw93 : k1_chk93 v875), ∀ a x, ((![v875] : Fin 1 → IVec S16 32) a x).toNat < S32768.size a := fun v875 k1_hw93 => k1_hw93
@[reducible] def k1_t32_loop : Scf.Loop 32 :=
  let c0_i32_346 : BitVec 32 := 0#32
  let c1024_i32_347 : BitVec 32 := 1024#32
  let v435 : BitVec 32 := Scalar.addi c0_i32_346 c1024_i32_347
  let c1_i32_348 : BitVec 32 := 1#32
  ⟨c0_i32_346, v435, c1_i32_348⟩

def k1_chk94 (v870 : IVec S16 32) : Prop :=
  (∀ a x, ((![v870] : Fin 1 → IVec S16 32) a x).toNat < S65536.size a)
theorem k1_idx94_inb : ∀ (v870 : IVec S16 32) (k1_hw94 : k1_chk94 v870), ∀ a x, ((![v870] : Fin 1 → IVec S16 32) a x).toNat < S65536.size a := fun v870 k1_hw94 => k1_hw94

def k1_chk95 (v872 : IVec S16 32) : Prop :=
  (∀ a x, ((![v872] : Fin 1 → IVec S16 32) a x).toNat < S8192.size a)
theorem k1_idx95_inb : ∀ (v872 : IVec S16 32) (k1_hw95 : k1_chk95 v872), ∀ a x, ((![v872] : Fin 1 → IVec S16 32) a x).toNat < S8192.size a := fun v872 k1_hw95 => k1_hw95

def k1_chk96 (v875 : IVec S16 32) : Prop :=
  (∀ a x, ((![v875] : Fin 1 → IVec S16 32) a x).toNat < S32768.size a)
theorem k1_idx96_inb : ∀ (v875 : IVec S16 32) (k1_hw96 : k1_chk96 v875), ∀ a x, ((![v875] : Fin 1 → IVec S16 32) a x).toNat < S32768.size a := fun v875 k1_hw96 => k1_hw96
@[reducible] def k1_t33_loop : Scf.Loop 32 :=
  let c0_i32_358 : BitVec 32 := 0#32
  let c1024_i32_359 : BitVec 32 := 1024#32
  let v450 : BitVec 32 := Scalar.addi c0_i32_358 c1024_i32_359
  let c1_i32_360 : BitVec 32 := 1#32
  ⟨c0_i32_358, v450, c1_i32_360⟩

def k1_chk97 (v870 : IVec S16 32) : Prop :=
  (∀ a x, ((![v870] : Fin 1 → IVec S16 32) a x).toNat < S65536.size a)
theorem k1_idx97_inb : ∀ (v870 : IVec S16 32) (k1_hw97 : k1_chk97 v870), ∀ a x, ((![v870] : Fin 1 → IVec S16 32) a x).toNat < S65536.size a := fun v870 k1_hw97 => k1_hw97

def k1_chk98 (v872 : IVec S16 32) : Prop :=
  (∀ a x, ((![v872] : Fin 1 → IVec S16 32) a x).toNat < S8192.size a)
theorem k1_idx98_inb : ∀ (v872 : IVec S16 32) (k1_hw98 : k1_chk98 v872), ∀ a x, ((![v872] : Fin 1 → IVec S16 32) a x).toNat < S8192.size a := fun v872 k1_hw98 => k1_hw98

def k1_chk99 (v875 : IVec S16 32) : Prop :=
  (∀ a x, ((![v875] : Fin 1 → IVec S16 32) a x).toNat < S32768.size a)
theorem k1_idx99_inb : ∀ (v875 : IVec S16 32) (k1_hw99 : k1_chk99 v875), ∀ a x, ((![v875] : Fin 1 → IVec S16 32) a x).toNat < S32768.size a := fun v875 k1_hw99 => k1_hw99
@[reducible] def k1_t34_loop : Scf.Loop 32 :=
  let c0_i32_368 : BitVec 32 := 0#32
  let c1024_i32_369 : BitVec 32 := 1024#32
  let v462 : BitVec 32 := Scalar.addi c0_i32_368 c1024_i32_369
  let c1_i32_370 : BitVec 32 := 1#32
  ⟨c0_i32_368, v462, c1_i32_370⟩

def k1_chk100 (v870 : IVec S16 32) : Prop :=
  (∀ a x, ((![v870] : Fin 1 → IVec S16 32) a x).toNat < S65536.size a)
theorem k1_idx100_inb : ∀ (v870 : IVec S16 32) (k1_hw100 : k1_chk100 v870), ∀ a x, ((![v870] : Fin 1 → IVec S16 32) a x).toNat < S65536.size a := fun v870 k1_hw100 => k1_hw100

def k1_chk101 (v872 : IVec S16 32) : Prop :=
  (∀ a x, ((![v872] : Fin 1 → IVec S16 32) a x).toNat < S8192.size a)
theorem k1_idx101_inb : ∀ (v872 : IVec S16 32) (k1_hw101 : k1_chk101 v872), ∀ a x, ((![v872] : Fin 1 → IVec S16 32) a x).toNat < S8192.size a := fun v872 k1_hw101 => k1_hw101

def k1_chk102 (v875 : IVec S16 32) : Prop :=
  (∀ a x, ((![v875] : Fin 1 → IVec S16 32) a x).toNat < S32768.size a)
theorem k1_idx102_inb : ∀ (v875 : IVec S16 32) (k1_hw102 : k1_chk102 v875), ∀ a x, ((![v875] : Fin 1 → IVec S16 32) a x).toNat < S32768.size a := fun v875 k1_hw102 => k1_hw102
@[reducible] def k1_t35_loop : Scf.Loop 32 :=
  let c0_i32_380 : BitVec 32 := 0#32
  let c1024_i32_381 : BitVec 32 := 1024#32
  let v477 : BitVec 32 := Scalar.addi c0_i32_380 c1024_i32_381
  let c1_i32_382 : BitVec 32 := 1#32
  ⟨c0_i32_380, v477, c1_i32_382⟩

def k1_chk103 (v870 : IVec S16 32) : Prop :=
  (∀ a x, ((![v870] : Fin 1 → IVec S16 32) a x).toNat < S65536.size a)
theorem k1_idx103_inb : ∀ (v870 : IVec S16 32) (k1_hw103 : k1_chk103 v870), ∀ a x, ((![v870] : Fin 1 → IVec S16 32) a x).toNat < S65536.size a := fun v870 k1_hw103 => k1_hw103

def k1_chk104 (v872 : IVec S16 32) : Prop :=
  (∀ a x, ((![v872] : Fin 1 → IVec S16 32) a x).toNat < S8192.size a)
theorem k1_idx104_inb : ∀ (v872 : IVec S16 32) (k1_hw104 : k1_chk104 v872), ∀ a x, ((![v872] : Fin 1 → IVec S16 32) a x).toNat < S8192.size a := fun v872 k1_hw104 => k1_hw104

def k1_chk105 (v875 : IVec S16 32) : Prop :=
  (∀ a x, ((![v875] : Fin 1 → IVec S16 32) a x).toNat < S32768.size a)
theorem k1_idx105_inb : ∀ (v875 : IVec S16 32) (k1_hw105 : k1_chk105 v875), ∀ a x, ((![v875] : Fin 1 → IVec S16 32) a x).toNat < S32768.size a := fun v875 k1_hw105 => k1_hw105
@[reducible] def k1_t36_loop : Scf.Loop 32 :=
  let c0_i32_390 : BitVec 32 := 0#32
  let c1024_i32_391 : BitVec 32 := 1024#32
  let v489 : BitVec 32 := Scalar.addi c0_i32_390 c1024_i32_391
  let c1_i32_392 : BitVec 32 := 1#32
  ⟨c0_i32_390, v489, c1_i32_392⟩

def k1_chk106 (v870 : IVec S16 32) : Prop :=
  (∀ a x, ((![v870] : Fin 1 → IVec S16 32) a x).toNat < S65536.size a)
theorem k1_idx106_inb : ∀ (v870 : IVec S16 32) (k1_hw106 : k1_chk106 v870), ∀ a x, ((![v870] : Fin 1 → IVec S16 32) a x).toNat < S65536.size a := fun v870 k1_hw106 => k1_hw106

def k1_chk107 (v872 : IVec S16 32) : Prop :=
  (∀ a x, ((![v872] : Fin 1 → IVec S16 32) a x).toNat < S8192.size a)
theorem k1_idx107_inb : ∀ (v872 : IVec S16 32) (k1_hw107 : k1_chk107 v872), ∀ a x, ((![v872] : Fin 1 → IVec S16 32) a x).toNat < S8192.size a := fun v872 k1_hw107 => k1_hw107

def k1_chk108 (v875 : IVec S16 32) : Prop :=
  (∀ a x, ((![v875] : Fin 1 → IVec S16 32) a x).toNat < S32768.size a)
theorem k1_idx108_inb : ∀ (v875 : IVec S16 32) (k1_hw108 : k1_chk108 v875), ∀ a x, ((![v875] : Fin 1 → IVec S16 32) a x).toNat < S32768.size a := fun v875 k1_hw108 => k1_hw108
@[reducible] def k1_t37_loop : Scf.Loop 32 :=
  let c0_i32_402 : BitVec 32 := 0#32
  let c1024_i32_403 : BitVec 32 := 1024#32
  let v504 : BitVec 32 := Scalar.addi c0_i32_402 c1024_i32_403
  let c1_i32_404 : BitVec 32 := 1#32
  ⟨c0_i32_402, v504, c1_i32_404⟩

def k1_chk109 (v870 : IVec S16 32) : Prop :=
  (∀ a x, ((![v870] : Fin 1 → IVec S16 32) a x).toNat < S65536.size a)
theorem k1_idx109_inb : ∀ (v870 : IVec S16 32) (k1_hw109 : k1_chk109 v870), ∀ a x, ((![v870] : Fin 1 → IVec S16 32) a x).toNat < S65536.size a := fun v870 k1_hw109 => k1_hw109

def k1_chk110 (v872 : IVec S16 32) : Prop :=
  (∀ a x, ((![v872] : Fin 1 → IVec S16 32) a x).toNat < S8192.size a)
theorem k1_idx110_inb : ∀ (v872 : IVec S16 32) (k1_hw110 : k1_chk110 v872), ∀ a x, ((![v872] : Fin 1 → IVec S16 32) a x).toNat < S8192.size a := fun v872 k1_hw110 => k1_hw110

def k1_chk111 (v875 : IVec S16 32) : Prop :=
  (∀ a x, ((![v875] : Fin 1 → IVec S16 32) a x).toNat < S32768.size a)
theorem k1_idx111_inb : ∀ (v875 : IVec S16 32) (k1_hw111 : k1_chk111 v875), ∀ a x, ((![v875] : Fin 1 → IVec S16 32) a x).toNat < S32768.size a := fun v875 k1_hw111 => k1_hw111
@[reducible] def k1_t38_loop : Scf.Loop 32 :=
  let c0_i32_412 : BitVec 32 := 0#32
  let c1024_i32_413 : BitVec 32 := 1024#32
  let v516 : BitVec 32 := Scalar.addi c0_i32_412 c1024_i32_413
  let c1_i32_414 : BitVec 32 := 1#32
  ⟨c0_i32_412, v516, c1_i32_414⟩

def k1_chk112 (v870 : IVec S16 32) : Prop :=
  (∀ a x, ((![v870] : Fin 1 → IVec S16 32) a x).toNat < S65536.size a)
theorem k1_idx112_inb : ∀ (v870 : IVec S16 32) (k1_hw112 : k1_chk112 v870), ∀ a x, ((![v870] : Fin 1 → IVec S16 32) a x).toNat < S65536.size a := fun v870 k1_hw112 => k1_hw112

def k1_chk113 (v872 : IVec S16 32) : Prop :=
  (∀ a x, ((![v872] : Fin 1 → IVec S16 32) a x).toNat < S8192.size a)
theorem k1_idx113_inb : ∀ (v872 : IVec S16 32) (k1_hw113 : k1_chk113 v872), ∀ a x, ((![v872] : Fin 1 → IVec S16 32) a x).toNat < S8192.size a := fun v872 k1_hw113 => k1_hw113

def k1_chk114 (v875 : IVec S16 32) : Prop :=
  (∀ a x, ((![v875] : Fin 1 → IVec S16 32) a x).toNat < S32768.size a)
theorem k1_idx114_inb : ∀ (v875 : IVec S16 32) (k1_hw114 : k1_chk114 v875), ∀ a x, ((![v875] : Fin 1 → IVec S16 32) a x).toNat < S32768.size a := fun v875 k1_hw114 => k1_hw114
@[reducible] def k1_t39_loop : Scf.Loop 32 :=
  let c0_i32_424 : BitVec 32 := 0#32
  let c1024_i32_425 : BitVec 32 := 1024#32
  let v531 : BitVec 32 := Scalar.addi c0_i32_424 c1024_i32_425
  let c1_i32_426 : BitVec 32 := 1#32
  ⟨c0_i32_424, v531, c1_i32_426⟩

def k1_chk115 (v870 : IVec S16 32) : Prop :=
  (∀ a x, ((![v870] : Fin 1 → IVec S16 32) a x).toNat < S65536.size a)
theorem k1_idx115_inb : ∀ (v870 : IVec S16 32) (k1_hw115 : k1_chk115 v870), ∀ a x, ((![v870] : Fin 1 → IVec S16 32) a x).toNat < S65536.size a := fun v870 k1_hw115 => k1_hw115

def k1_chk116 (v872 : IVec S16 32) : Prop :=
  (∀ a x, ((![v872] : Fin 1 → IVec S16 32) a x).toNat < S8192.size a)
theorem k1_idx116_inb : ∀ (v872 : IVec S16 32) (k1_hw116 : k1_chk116 v872), ∀ a x, ((![v872] : Fin 1 → IVec S16 32) a x).toNat < S8192.size a := fun v872 k1_hw116 => k1_hw116

def k1_chk117 (v875 : IVec S16 32) : Prop :=
  (∀ a x, ((![v875] : Fin 1 → IVec S16 32) a x).toNat < S32768.size a)
theorem k1_idx117_inb : ∀ (v875 : IVec S16 32) (k1_hw117 : k1_chk117 v875), ∀ a x, ((![v875] : Fin 1 → IVec S16 32) a x).toNat < S32768.size a := fun v875 k1_hw117 => k1_hw117
@[reducible] def k1_t40_loop : Scf.Loop 32 :=
  let c0_i32_434 : BitVec 32 := 0#32
  let c1024_i32_435 : BitVec 32 := 1024#32
  let v543 : BitVec 32 := Scalar.addi c0_i32_434 c1024_i32_435
  let c1_i32_436 : BitVec 32 := 1#32
  ⟨c0_i32_434, v543, c1_i32_436⟩

def k1_chk118 (v870 : IVec S16 32) : Prop :=
  (∀ a x, ((![v870] : Fin 1 → IVec S16 32) a x).toNat < S65536.size a)
theorem k1_idx118_inb : ∀ (v870 : IVec S16 32) (k1_hw118 : k1_chk118 v870), ∀ a x, ((![v870] : Fin 1 → IVec S16 32) a x).toNat < S65536.size a := fun v870 k1_hw118 => k1_hw118

def k1_chk119 (v872 : IVec S16 32) : Prop :=
  (∀ a x, ((![v872] : Fin 1 → IVec S16 32) a x).toNat < S8192.size a)
theorem k1_idx119_inb : ∀ (v872 : IVec S16 32) (k1_hw119 : k1_chk119 v872), ∀ a x, ((![v872] : Fin 1 → IVec S16 32) a x).toNat < S8192.size a := fun v872 k1_hw119 => k1_hw119

def k1_chk120 (v875 : IVec S16 32) : Prop :=
  (∀ a x, ((![v875] : Fin 1 → IVec S16 32) a x).toNat < S32768.size a)
theorem k1_idx120_inb : ∀ (v875 : IVec S16 32) (k1_hw120 : k1_chk120 v875), ∀ a x, ((![v875] : Fin 1 → IVec S16 32) a x).toNat < S32768.size a := fun v875 k1_hw120 => k1_hw120
@[reducible] def k1_t41_loop : Scf.Loop 32 :=
  let c0_i32_446 : BitVec 32 := 0#32
  let c1024_i32_447 : BitVec 32 := 1024#32
  let v558 : BitVec 32 := Scalar.addi c0_i32_446 c1024_i32_447
  let c1_i32_448 : BitVec 32 := 1#32
  ⟨c0_i32_446, v558, c1_i32_448⟩

def k1_chk121 (v870 : IVec S16 32) : Prop :=
  (∀ a x, ((![v870] : Fin 1 → IVec S16 32) a x).toNat < S65536.size a)
theorem k1_idx121_inb : ∀ (v870 : IVec S16 32) (k1_hw121 : k1_chk121 v870), ∀ a x, ((![v870] : Fin 1 → IVec S16 32) a x).toNat < S65536.size a := fun v870 k1_hw121 => k1_hw121

def k1_chk122 (v872 : IVec S16 32) : Prop :=
  (∀ a x, ((![v872] : Fin 1 → IVec S16 32) a x).toNat < S8192.size a)
theorem k1_idx122_inb : ∀ (v872 : IVec S16 32) (k1_hw122 : k1_chk122 v872), ∀ a x, ((![v872] : Fin 1 → IVec S16 32) a x).toNat < S8192.size a := fun v872 k1_hw122 => k1_hw122

def k1_chk123 (v875 : IVec S16 32) : Prop :=
  (∀ a x, ((![v875] : Fin 1 → IVec S16 32) a x).toNat < S32768.size a)
theorem k1_idx123_inb : ∀ (v875 : IVec S16 32) (k1_hw123 : k1_chk123 v875), ∀ a x, ((![v875] : Fin 1 → IVec S16 32) a x).toNat < S32768.size a := fun v875 k1_hw123 => k1_hw123
@[reducible] def k1_t42_loop : Scf.Loop 32 :=
  let c0_i32_456 : BitVec 32 := 0#32
  let c1024_i32_457 : BitVec 32 := 1024#32
  let v570 : BitVec 32 := Scalar.addi c0_i32_456 c1024_i32_457
  let c1_i32_458 : BitVec 32 := 1#32
  ⟨c0_i32_456, v570, c1_i32_458⟩

def k1_chk124 (v870 : IVec S16 32) : Prop :=
  (∀ a x, ((![v870] : Fin 1 → IVec S16 32) a x).toNat < S65536.size a)
theorem k1_idx124_inb : ∀ (v870 : IVec S16 32) (k1_hw124 : k1_chk124 v870), ∀ a x, ((![v870] : Fin 1 → IVec S16 32) a x).toNat < S65536.size a := fun v870 k1_hw124 => k1_hw124

def k1_chk125 (v872 : IVec S16 32) : Prop :=
  (∀ a x, ((![v872] : Fin 1 → IVec S16 32) a x).toNat < S8192.size a)
theorem k1_idx125_inb : ∀ (v872 : IVec S16 32) (k1_hw125 : k1_chk125 v872), ∀ a x, ((![v872] : Fin 1 → IVec S16 32) a x).toNat < S8192.size a := fun v872 k1_hw125 => k1_hw125

def k1_chk126 (v875 : IVec S16 32) : Prop :=
  (∀ a x, ((![v875] : Fin 1 → IVec S16 32) a x).toNat < S32768.size a)
theorem k1_idx126_inb : ∀ (v875 : IVec S16 32) (k1_hw126 : k1_chk126 v875), ∀ a x, ((![v875] : Fin 1 → IVec S16 32) a x).toNat < S32768.size a := fun v875 k1_hw126 => k1_hw126
@[reducible] def k1_t43_loop : Scf.Loop 32 :=
  let c0_i32_468 : BitVec 32 := 0#32
  let c1024_i32_469 : BitVec 32 := 1024#32
  let v585 : BitVec 32 := Scalar.addi c0_i32_468 c1024_i32_469
  let c1_i32_470 : BitVec 32 := 1#32
  ⟨c0_i32_468, v585, c1_i32_470⟩

def k1_chk127 (v870 : IVec S16 32) : Prop :=
  (∀ a x, ((![v870] : Fin 1 → IVec S16 32) a x).toNat < S65536.size a)
theorem k1_idx127_inb : ∀ (v870 : IVec S16 32) (k1_hw127 : k1_chk127 v870), ∀ a x, ((![v870] : Fin 1 → IVec S16 32) a x).toNat < S65536.size a := fun v870 k1_hw127 => k1_hw127

def k1_chk128 (v872 : IVec S16 32) : Prop :=
  (∀ a x, ((![v872] : Fin 1 → IVec S16 32) a x).toNat < S8192.size a)
theorem k1_idx128_inb : ∀ (v872 : IVec S16 32) (k1_hw128 : k1_chk128 v872), ∀ a x, ((![v872] : Fin 1 → IVec S16 32) a x).toNat < S8192.size a := fun v872 k1_hw128 => k1_hw128

def k1_chk129 (v875 : IVec S16 32) : Prop :=
  (∀ a x, ((![v875] : Fin 1 → IVec S16 32) a x).toNat < S32768.size a)
theorem k1_idx129_inb : ∀ (v875 : IVec S16 32) (k1_hw129 : k1_chk129 v875), ∀ a x, ((![v875] : Fin 1 → IVec S16 32) a x).toNat < S32768.size a := fun v875 k1_hw129 => k1_hw129
@[reducible] def k1_t44_loop : Scf.Loop 32 :=
  let c0_i32_478 : BitVec 32 := 0#32
  let c1024_i32_479 : BitVec 32 := 1024#32
  let v597 : BitVec 32 := Scalar.addi c0_i32_478 c1024_i32_479
  let c1_i32_480 : BitVec 32 := 1#32
  ⟨c0_i32_478, v597, c1_i32_480⟩

def k1_chk130 (v870 : IVec S16 32) : Prop :=
  (∀ a x, ((![v870] : Fin 1 → IVec S16 32) a x).toNat < S65536.size a)
theorem k1_idx130_inb : ∀ (v870 : IVec S16 32) (k1_hw130 : k1_chk130 v870), ∀ a x, ((![v870] : Fin 1 → IVec S16 32) a x).toNat < S65536.size a := fun v870 k1_hw130 => k1_hw130

def k1_chk131 (v872 : IVec S16 32) : Prop :=
  (∀ a x, ((![v872] : Fin 1 → IVec S16 32) a x).toNat < S8192.size a)
theorem k1_idx131_inb : ∀ (v872 : IVec S16 32) (k1_hw131 : k1_chk131 v872), ∀ a x, ((![v872] : Fin 1 → IVec S16 32) a x).toNat < S8192.size a := fun v872 k1_hw131 => k1_hw131

def k1_chk132 (v875 : IVec S16 32) : Prop :=
  (∀ a x, ((![v875] : Fin 1 → IVec S16 32) a x).toNat < S32768.size a)
theorem k1_idx132_inb : ∀ (v875 : IVec S16 32) (k1_hw132 : k1_chk132 v875), ∀ a x, ((![v875] : Fin 1 → IVec S16 32) a x).toNat < S32768.size a := fun v875 k1_hw132 => k1_hw132
@[reducible] def k1_t45_loop : Scf.Loop 32 :=
  let c0_i32_490 : BitVec 32 := 0#32
  let c1024_i32_491 : BitVec 32 := 1024#32
  let v612 : BitVec 32 := Scalar.addi c0_i32_490 c1024_i32_491
  let c1_i32_492 : BitVec 32 := 1#32
  ⟨c0_i32_490, v612, c1_i32_492⟩

def k1_chk133 (v870 : IVec S16 32) : Prop :=
  (∀ a x, ((![v870] : Fin 1 → IVec S16 32) a x).toNat < S65536.size a)
theorem k1_idx133_inb : ∀ (v870 : IVec S16 32) (k1_hw133 : k1_chk133 v870), ∀ a x, ((![v870] : Fin 1 → IVec S16 32) a x).toNat < S65536.size a := fun v870 k1_hw133 => k1_hw133

def k1_chk134 (v872 : IVec S16 32) : Prop :=
  (∀ a x, ((![v872] : Fin 1 → IVec S16 32) a x).toNat < S8192.size a)
theorem k1_idx134_inb : ∀ (v872 : IVec S16 32) (k1_hw134 : k1_chk134 v872), ∀ a x, ((![v872] : Fin 1 → IVec S16 32) a x).toNat < S8192.size a := fun v872 k1_hw134 => k1_hw134

def k1_chk135 (v875 : IVec S16 32) : Prop :=
  (∀ a x, ((![v875] : Fin 1 → IVec S16 32) a x).toNat < S32768.size a)
theorem k1_idx135_inb : ∀ (v875 : IVec S16 32) (k1_hw135 : k1_chk135 v875), ∀ a x, ((![v875] : Fin 1 → IVec S16 32) a x).toNat < S32768.size a := fun v875 k1_hw135 => k1_hw135
@[reducible] def k1_t46_loop : Scf.Loop 32 :=
  let c0_i32_500 : BitVec 32 := 0#32
  let c1024_i32_501 : BitVec 32 := 1024#32
  let v624 : BitVec 32 := Scalar.addi c0_i32_500 c1024_i32_501
  let c1_i32_502 : BitVec 32 := 1#32
  ⟨c0_i32_500, v624, c1_i32_502⟩

def k1_chk136 (v870 : IVec S16 32) : Prop :=
  (∀ a x, ((![v870] : Fin 1 → IVec S16 32) a x).toNat < S65536.size a)
theorem k1_idx136_inb : ∀ (v870 : IVec S16 32) (k1_hw136 : k1_chk136 v870), ∀ a x, ((![v870] : Fin 1 → IVec S16 32) a x).toNat < S65536.size a := fun v870 k1_hw136 => k1_hw136

def k1_chk137 (v872 : IVec S16 32) : Prop :=
  (∀ a x, ((![v872] : Fin 1 → IVec S16 32) a x).toNat < S8192.size a)
theorem k1_idx137_inb : ∀ (v872 : IVec S16 32) (k1_hw137 : k1_chk137 v872), ∀ a x, ((![v872] : Fin 1 → IVec S16 32) a x).toNat < S8192.size a := fun v872 k1_hw137 => k1_hw137

def k1_chk138 (v875 : IVec S16 32) : Prop :=
  (∀ a x, ((![v875] : Fin 1 → IVec S16 32) a x).toNat < S32768.size a)
theorem k1_idx138_inb : ∀ (v875 : IVec S16 32) (k1_hw138 : k1_chk138 v875), ∀ a x, ((![v875] : Fin 1 → IVec S16 32) a x).toNat < S32768.size a := fun v875 k1_hw138 => k1_hw138
@[reducible] def k1_t47_loop : Scf.Loop 32 :=
  let c0_i32_512 : BitVec 32 := 0#32
  let c1024_i32_513 : BitVec 32 := 1024#32
  let v639 : BitVec 32 := Scalar.addi c0_i32_512 c1024_i32_513
  let c1_i32_514 : BitVec 32 := 1#32
  ⟨c0_i32_512, v639, c1_i32_514⟩

def k1_chk139 (v870 : IVec S16 32) : Prop :=
  (∀ a x, ((![v870] : Fin 1 → IVec S16 32) a x).toNat < S65536.size a)
theorem k1_idx139_inb : ∀ (v870 : IVec S16 32) (k1_hw139 : k1_chk139 v870), ∀ a x, ((![v870] : Fin 1 → IVec S16 32) a x).toNat < S65536.size a := fun v870 k1_hw139 => k1_hw139

def k1_chk140 (v872 : IVec S16 32) : Prop :=
  (∀ a x, ((![v872] : Fin 1 → IVec S16 32) a x).toNat < S8192.size a)
theorem k1_idx140_inb : ∀ (v872 : IVec S16 32) (k1_hw140 : k1_chk140 v872), ∀ a x, ((![v872] : Fin 1 → IVec S16 32) a x).toNat < S8192.size a := fun v872 k1_hw140 => k1_hw140

def k1_chk141 (v875 : IVec S16 32) : Prop :=
  (∀ a x, ((![v875] : Fin 1 → IVec S16 32) a x).toNat < S32768.size a)
theorem k1_idx141_inb : ∀ (v875 : IVec S16 32) (k1_hw141 : k1_chk141 v875), ∀ a x, ((![v875] : Fin 1 → IVec S16 32) a x).toNat < S32768.size a := fun v875 k1_hw141 => k1_hw141
@[reducible] def k1_t48_loop : Scf.Loop 32 :=
  let c0_i32_522 : BitVec 32 := 0#32
  let c1024_i32_523 : BitVec 32 := 1024#32
  let v651 : BitVec 32 := Scalar.addi c0_i32_522 c1024_i32_523
  let c1_i32_524 : BitVec 32 := 1#32
  ⟨c0_i32_522, v651, c1_i32_524⟩

def k1_chk142 (v870 : IVec S16 32) : Prop :=
  (∀ a x, ((![v870] : Fin 1 → IVec S16 32) a x).toNat < S65536.size a)
theorem k1_idx142_inb : ∀ (v870 : IVec S16 32) (k1_hw142 : k1_chk142 v870), ∀ a x, ((![v870] : Fin 1 → IVec S16 32) a x).toNat < S65536.size a := fun v870 k1_hw142 => k1_hw142

def k1_chk143 (v872 : IVec S16 32) : Prop :=
  (∀ a x, ((![v872] : Fin 1 → IVec S16 32) a x).toNat < S8192.size a)
theorem k1_idx143_inb : ∀ (v872 : IVec S16 32) (k1_hw143 : k1_chk143 v872), ∀ a x, ((![v872] : Fin 1 → IVec S16 32) a x).toNat < S8192.size a := fun v872 k1_hw143 => k1_hw143

def k1_chk144 (v875 : IVec S16 32) : Prop :=
  (∀ a x, ((![v875] : Fin 1 → IVec S16 32) a x).toNat < S32768.size a)
theorem k1_idx144_inb : ∀ (v875 : IVec S16 32) (k1_hw144 : k1_chk144 v875), ∀ a x, ((![v875] : Fin 1 → IVec S16 32) a x).toNat < S32768.size a := fun v875 k1_hw144 => k1_hw144
@[reducible] def k1_t49_loop : Scf.Loop 32 :=
  let c0_i32_534 : BitVec 32 := 0#32
  let c1024_i32_535 : BitVec 32 := 1024#32
  let v666 : BitVec 32 := Scalar.addi c0_i32_534 c1024_i32_535
  let c1_i32_536 : BitVec 32 := 1#32
  ⟨c0_i32_534, v666, c1_i32_536⟩

def k1_chk145 (v870 : IVec S16 32) : Prop :=
  (∀ a x, ((![v870] : Fin 1 → IVec S16 32) a x).toNat < S65536.size a)
theorem k1_idx145_inb : ∀ (v870 : IVec S16 32) (k1_hw145 : k1_chk145 v870), ∀ a x, ((![v870] : Fin 1 → IVec S16 32) a x).toNat < S65536.size a := fun v870 k1_hw145 => k1_hw145

def k1_chk146 (v872 : IVec S16 32) : Prop :=
  (∀ a x, ((![v872] : Fin 1 → IVec S16 32) a x).toNat < S8192.size a)
theorem k1_idx146_inb : ∀ (v872 : IVec S16 32) (k1_hw146 : k1_chk146 v872), ∀ a x, ((![v872] : Fin 1 → IVec S16 32) a x).toNat < S8192.size a := fun v872 k1_hw146 => k1_hw146

def k1_chk147 (v875 : IVec S16 32) : Prop :=
  (∀ a x, ((![v875] : Fin 1 → IVec S16 32) a x).toNat < S32768.size a)
theorem k1_idx147_inb : ∀ (v875 : IVec S16 32) (k1_hw147 : k1_chk147 v875), ∀ a x, ((![v875] : Fin 1 → IVec S16 32) a x).toNat < S32768.size a := fun v875 k1_hw147 => k1_hw147
@[reducible] def k1_t50_loop : Scf.Loop 32 :=
  let c0_i32_544 : BitVec 32 := 0#32
  let c1024_i32_545 : BitVec 32 := 1024#32
  let v678 : BitVec 32 := Scalar.addi c0_i32_544 c1024_i32_545
  let c1_i32_546 : BitVec 32 := 1#32
  ⟨c0_i32_544, v678, c1_i32_546⟩

def k1_chk148 (v870 : IVec S16 32) : Prop :=
  (∀ a x, ((![v870] : Fin 1 → IVec S16 32) a x).toNat < S65536.size a)
theorem k1_idx148_inb : ∀ (v870 : IVec S16 32) (k1_hw148 : k1_chk148 v870), ∀ a x, ((![v870] : Fin 1 → IVec S16 32) a x).toNat < S65536.size a := fun v870 k1_hw148 => k1_hw148

def k1_chk149 (v872 : IVec S16 32) : Prop :=
  (∀ a x, ((![v872] : Fin 1 → IVec S16 32) a x).toNat < S8192.size a)
theorem k1_idx149_inb : ∀ (v872 : IVec S16 32) (k1_hw149 : k1_chk149 v872), ∀ a x, ((![v872] : Fin 1 → IVec S16 32) a x).toNat < S8192.size a := fun v872 k1_hw149 => k1_hw149

def k1_chk150 (v875 : IVec S16 32) : Prop :=
  (∀ a x, ((![v875] : Fin 1 → IVec S16 32) a x).toNat < S32768.size a)
theorem k1_idx150_inb : ∀ (v875 : IVec S16 32) (k1_hw150 : k1_chk150 v875), ∀ a x, ((![v875] : Fin 1 → IVec S16 32) a x).toNat < S32768.size a := fun v875 k1_hw150 => k1_hw150
@[reducible] def k1_t51_loop : Scf.Loop 32 :=
  let c0_i32_556 : BitVec 32 := 0#32
  let c1024_i32_557 : BitVec 32 := 1024#32
  let v693 : BitVec 32 := Scalar.addi c0_i32_556 c1024_i32_557
  let c1_i32_558 : BitVec 32 := 1#32
  ⟨c0_i32_556, v693, c1_i32_558⟩

def k1_chk151 (v870 : IVec S16 32) : Prop :=
  (∀ a x, ((![v870] : Fin 1 → IVec S16 32) a x).toNat < S65536.size a)
theorem k1_idx151_inb : ∀ (v870 : IVec S16 32) (k1_hw151 : k1_chk151 v870), ∀ a x, ((![v870] : Fin 1 → IVec S16 32) a x).toNat < S65536.size a := fun v870 k1_hw151 => k1_hw151

def k1_chk152 (v872 : IVec S16 32) : Prop :=
  (∀ a x, ((![v872] : Fin 1 → IVec S16 32) a x).toNat < S8192.size a)
theorem k1_idx152_inb : ∀ (v872 : IVec S16 32) (k1_hw152 : k1_chk152 v872), ∀ a x, ((![v872] : Fin 1 → IVec S16 32) a x).toNat < S8192.size a := fun v872 k1_hw152 => k1_hw152

def k1_chk153 (v875 : IVec S16 32) : Prop :=
  (∀ a x, ((![v875] : Fin 1 → IVec S16 32) a x).toNat < S32768.size a)
theorem k1_idx153_inb : ∀ (v875 : IVec S16 32) (k1_hw153 : k1_chk153 v875), ∀ a x, ((![v875] : Fin 1 → IVec S16 32) a x).toNat < S32768.size a := fun v875 k1_hw153 => k1_hw153
@[reducible] def k1_t52_loop : Scf.Loop 32 :=
  let c0_i32_566 : BitVec 32 := 0#32
  let c1024_i32_567 : BitVec 32 := 1024#32
  let v705 : BitVec 32 := Scalar.addi c0_i32_566 c1024_i32_567
  let c1_i32_568 : BitVec 32 := 1#32
  ⟨c0_i32_566, v705, c1_i32_568⟩

def k1_chk154 (v870 : IVec S16 32) : Prop :=
  (∀ a x, ((![v870] : Fin 1 → IVec S16 32) a x).toNat < S65536.size a)
theorem k1_idx154_inb : ∀ (v870 : IVec S16 32) (k1_hw154 : k1_chk154 v870), ∀ a x, ((![v870] : Fin 1 → IVec S16 32) a x).toNat < S65536.size a := fun v870 k1_hw154 => k1_hw154

def k1_chk155 (v872 : IVec S16 32) : Prop :=
  (∀ a x, ((![v872] : Fin 1 → IVec S16 32) a x).toNat < S8192.size a)
theorem k1_idx155_inb : ∀ (v872 : IVec S16 32) (k1_hw155 : k1_chk155 v872), ∀ a x, ((![v872] : Fin 1 → IVec S16 32) a x).toNat < S8192.size a := fun v872 k1_hw155 => k1_hw155

def k1_chk156 (v875 : IVec S16 32) : Prop :=
  (∀ a x, ((![v875] : Fin 1 → IVec S16 32) a x).toNat < S32768.size a)
theorem k1_idx156_inb : ∀ (v875 : IVec S16 32) (k1_hw156 : k1_chk156 v875), ∀ a x, ((![v875] : Fin 1 → IVec S16 32) a x).toNat < S32768.size a := fun v875 k1_hw156 => k1_hw156
@[reducible] def k1_t53_loop : Scf.Loop 32 :=
  let c0_i32_578 : BitVec 32 := 0#32
  let c1024_i32_579 : BitVec 32 := 1024#32
  let v720 : BitVec 32 := Scalar.addi c0_i32_578 c1024_i32_579
  let c1_i32_580 : BitVec 32 := 1#32
  ⟨c0_i32_578, v720, c1_i32_580⟩

def k1_chk157 (v870 : IVec S16 32) : Prop :=
  (∀ a x, ((![v870] : Fin 1 → IVec S16 32) a x).toNat < S65536.size a)
theorem k1_idx157_inb : ∀ (v870 : IVec S16 32) (k1_hw157 : k1_chk157 v870), ∀ a x, ((![v870] : Fin 1 → IVec S16 32) a x).toNat < S65536.size a := fun v870 k1_hw157 => k1_hw157

def k1_chk158 (v872 : IVec S16 32) : Prop :=
  (∀ a x, ((![v872] : Fin 1 → IVec S16 32) a x).toNat < S8192.size a)
theorem k1_idx158_inb : ∀ (v872 : IVec S16 32) (k1_hw158 : k1_chk158 v872), ∀ a x, ((![v872] : Fin 1 → IVec S16 32) a x).toNat < S8192.size a := fun v872 k1_hw158 => k1_hw158

def k1_chk159 (v875 : IVec S16 32) : Prop :=
  (∀ a x, ((![v875] : Fin 1 → IVec S16 32) a x).toNat < S32768.size a)
theorem k1_idx159_inb : ∀ (v875 : IVec S16 32) (k1_hw159 : k1_chk159 v875), ∀ a x, ((![v875] : Fin 1 → IVec S16 32) a x).toNat < S32768.size a := fun v875 k1_hw159 => k1_hw159
@[reducible] def k1_t54_loop : Scf.Loop 32 :=
  let c0_i32_588 : BitVec 32 := 0#32
  let c1024_i32_589 : BitVec 32 := 1024#32
  let v732 : BitVec 32 := Scalar.addi c0_i32_588 c1024_i32_589
  let c1_i32_590 : BitVec 32 := 1#32
  ⟨c0_i32_588, v732, c1_i32_590⟩

def k1_chk160 (v870 : IVec S16 32) : Prop :=
  (∀ a x, ((![v870] : Fin 1 → IVec S16 32) a x).toNat < S65536.size a)
theorem k1_idx160_inb : ∀ (v870 : IVec S16 32) (k1_hw160 : k1_chk160 v870), ∀ a x, ((![v870] : Fin 1 → IVec S16 32) a x).toNat < S65536.size a := fun v870 k1_hw160 => k1_hw160

def k1_chk161 (v872 : IVec S16 32) : Prop :=
  (∀ a x, ((![v872] : Fin 1 → IVec S16 32) a x).toNat < S8192.size a)
theorem k1_idx161_inb : ∀ (v872 : IVec S16 32) (k1_hw161 : k1_chk161 v872), ∀ a x, ((![v872] : Fin 1 → IVec S16 32) a x).toNat < S8192.size a := fun v872 k1_hw161 => k1_hw161

def k1_chk162 (v875 : IVec S16 32) : Prop :=
  (∀ a x, ((![v875] : Fin 1 → IVec S16 32) a x).toNat < S32768.size a)
theorem k1_idx162_inb : ∀ (v875 : IVec S16 32) (k1_hw162 : k1_chk162 v875), ∀ a x, ((![v875] : Fin 1 → IVec S16 32) a x).toNat < S32768.size a := fun v875 k1_hw162 => k1_hw162
@[reducible] def k1_t55_loop : Scf.Loop 32 :=
  let c0_i32_600 : BitVec 32 := 0#32
  let c1024_i32_601 : BitVec 32 := 1024#32
  let v747 : BitVec 32 := Scalar.addi c0_i32_600 c1024_i32_601
  let c1_i32_602 : BitVec 32 := 1#32
  ⟨c0_i32_600, v747, c1_i32_602⟩

def k1_chk163 (v870 : IVec S16 32) : Prop :=
  (∀ a x, ((![v870] : Fin 1 → IVec S16 32) a x).toNat < S65536.size a)
theorem k1_idx163_inb : ∀ (v870 : IVec S16 32) (k1_hw163 : k1_chk163 v870), ∀ a x, ((![v870] : Fin 1 → IVec S16 32) a x).toNat < S65536.size a := fun v870 k1_hw163 => k1_hw163

def k1_chk164 (v872 : IVec S16 32) : Prop :=
  (∀ a x, ((![v872] : Fin 1 → IVec S16 32) a x).toNat < S8192.size a)
theorem k1_idx164_inb : ∀ (v872 : IVec S16 32) (k1_hw164 : k1_chk164 v872), ∀ a x, ((![v872] : Fin 1 → IVec S16 32) a x).toNat < S8192.size a := fun v872 k1_hw164 => k1_hw164

def k1_chk165 (v875 : IVec S16 32) : Prop :=
  (∀ a x, ((![v875] : Fin 1 → IVec S16 32) a x).toNat < S32768.size a)
theorem k1_idx165_inb : ∀ (v875 : IVec S16 32) (k1_hw165 : k1_chk165 v875), ∀ a x, ((![v875] : Fin 1 → IVec S16 32) a x).toNat < S32768.size a := fun v875 k1_hw165 => k1_hw165
@[reducible] def k1_t56_loop : Scf.Loop 32 :=
  let c0_i32_610 : BitVec 32 := 0#32
  let c1024_i32_611 : BitVec 32 := 1024#32
  let v759 : BitVec 32 := Scalar.addi c0_i32_610 c1024_i32_611
  let c1_i32_612 : BitVec 32 := 1#32
  ⟨c0_i32_610, v759, c1_i32_612⟩

def k1_chk166 (v870 : IVec S16 32) : Prop :=
  (∀ a x, ((![v870] : Fin 1 → IVec S16 32) a x).toNat < S65536.size a)
theorem k1_idx166_inb : ∀ (v870 : IVec S16 32) (k1_hw166 : k1_chk166 v870), ∀ a x, ((![v870] : Fin 1 → IVec S16 32) a x).toNat < S65536.size a := fun v870 k1_hw166 => k1_hw166

def k1_chk167 (v872 : IVec S16 32) : Prop :=
  (∀ a x, ((![v872] : Fin 1 → IVec S16 32) a x).toNat < S8192.size a)
theorem k1_idx167_inb : ∀ (v872 : IVec S16 32) (k1_hw167 : k1_chk167 v872), ∀ a x, ((![v872] : Fin 1 → IVec S16 32) a x).toNat < S8192.size a := fun v872 k1_hw167 => k1_hw167

def k1_chk168 (v875 : IVec S16 32) : Prop :=
  (∀ a x, ((![v875] : Fin 1 → IVec S16 32) a x).toNat < S32768.size a)
theorem k1_idx168_inb : ∀ (v875 : IVec S16 32) (k1_hw168 : k1_chk168 v875), ∀ a x, ((![v875] : Fin 1 → IVec S16 32) a x).toNat < S32768.size a := fun v875 k1_hw168 => k1_hw168
@[reducible] def k1_t57_loop : Scf.Loop 32 :=
  let c0_i32_622 : BitVec 32 := 0#32
  let c1024_i32_623 : BitVec 32 := 1024#32
  let v774 : BitVec 32 := Scalar.addi c0_i32_622 c1024_i32_623
  let c1_i32_624 : BitVec 32 := 1#32
  ⟨c0_i32_622, v774, c1_i32_624⟩

def k1_chk169 (v870 : IVec S16 32) : Prop :=
  (∀ a x, ((![v870] : Fin 1 → IVec S16 32) a x).toNat < S65536.size a)
theorem k1_idx169_inb : ∀ (v870 : IVec S16 32) (k1_hw169 : k1_chk169 v870), ∀ a x, ((![v870] : Fin 1 → IVec S16 32) a x).toNat < S65536.size a := fun v870 k1_hw169 => k1_hw169

def k1_chk170 (v872 : IVec S16 32) : Prop :=
  (∀ a x, ((![v872] : Fin 1 → IVec S16 32) a x).toNat < S8192.size a)
theorem k1_idx170_inb : ∀ (v872 : IVec S16 32) (k1_hw170 : k1_chk170 v872), ∀ a x, ((![v872] : Fin 1 → IVec S16 32) a x).toNat < S8192.size a := fun v872 k1_hw170 => k1_hw170

def k1_chk171 (v875 : IVec S16 32) : Prop :=
  (∀ a x, ((![v875] : Fin 1 → IVec S16 32) a x).toNat < S32768.size a)
theorem k1_idx171_inb : ∀ (v875 : IVec S16 32) (k1_hw171 : k1_chk171 v875), ∀ a x, ((![v875] : Fin 1 → IVec S16 32) a x).toNat < S32768.size a := fun v875 k1_hw171 => k1_hw171
@[reducible] def k1_t58_loop : Scf.Loop 32 :=
  let c0_i32_632 : BitVec 32 := 0#32
  let c1024_i32_633 : BitVec 32 := 1024#32
  let v786 : BitVec 32 := Scalar.addi c0_i32_632 c1024_i32_633
  let c1_i32_634 : BitVec 32 := 1#32
  ⟨c0_i32_632, v786, c1_i32_634⟩

def k1_chk172 (v870 : IVec S16 32) : Prop :=
  (∀ a x, ((![v870] : Fin 1 → IVec S16 32) a x).toNat < S65536.size a)
theorem k1_idx172_inb : ∀ (v870 : IVec S16 32) (k1_hw172 : k1_chk172 v870), ∀ a x, ((![v870] : Fin 1 → IVec S16 32) a x).toNat < S65536.size a := fun v870 k1_hw172 => k1_hw172

def k1_chk173 (v872 : IVec S16 32) : Prop :=
  (∀ a x, ((![v872] : Fin 1 → IVec S16 32) a x).toNat < S8192.size a)
theorem k1_idx173_inb : ∀ (v872 : IVec S16 32) (k1_hw173 : k1_chk173 v872), ∀ a x, ((![v872] : Fin 1 → IVec S16 32) a x).toNat < S8192.size a := fun v872 k1_hw173 => k1_hw173

def k1_chk174 (v875 : IVec S16 32) : Prop :=
  (∀ a x, ((![v875] : Fin 1 → IVec S16 32) a x).toNat < S32768.size a)
theorem k1_idx174_inb : ∀ (v875 : IVec S16 32) (k1_hw174 : k1_chk174 v875), ∀ a x, ((![v875] : Fin 1 → IVec S16 32) a x).toNat < S32768.size a := fun v875 k1_hw174 => k1_hw174
@[reducible] def k1_t59_loop : Scf.Loop 32 :=
  let c0_i32_644 : BitVec 32 := 0#32
  let c1024_i32_645 : BitVec 32 := 1024#32
  let v801 : BitVec 32 := Scalar.addi c0_i32_644 c1024_i32_645
  let c1_i32_646 : BitVec 32 := 1#32
  ⟨c0_i32_644, v801, c1_i32_646⟩

def k1_chk175 (v870 : IVec S16 32) : Prop :=
  (∀ a x, ((![v870] : Fin 1 → IVec S16 32) a x).toNat < S65536.size a)
theorem k1_idx175_inb : ∀ (v870 : IVec S16 32) (k1_hw175 : k1_chk175 v870), ∀ a x, ((![v870] : Fin 1 → IVec S16 32) a x).toNat < S65536.size a := fun v870 k1_hw175 => k1_hw175

def k1_chk176 (v872 : IVec S16 32) : Prop :=
  (∀ a x, ((![v872] : Fin 1 → IVec S16 32) a x).toNat < S8192.size a)
theorem k1_idx176_inb : ∀ (v872 : IVec S16 32) (k1_hw176 : k1_chk176 v872), ∀ a x, ((![v872] : Fin 1 → IVec S16 32) a x).toNat < S8192.size a := fun v872 k1_hw176 => k1_hw176

def k1_chk177 (v875 : IVec S16 32) : Prop :=
  (∀ a x, ((![v875] : Fin 1 → IVec S16 32) a x).toNat < S32768.size a)
theorem k1_idx177_inb : ∀ (v875 : IVec S16 32) (k1_hw177 : k1_chk177 v875), ∀ a x, ((![v875] : Fin 1 → IVec S16 32) a x).toNat < S32768.size a := fun v875 k1_hw177 => k1_hw177
@[reducible] def k1_t60_loop : Scf.Loop 32 :=
  let c0_i32_654 : BitVec 32 := 0#32
  let c1024_i32_655 : BitVec 32 := 1024#32
  let v813 : BitVec 32 := Scalar.addi c0_i32_654 c1024_i32_655
  let c1_i32_656 : BitVec 32 := 1#32
  ⟨c0_i32_654, v813, c1_i32_656⟩

def k1_chk178 (v870 : IVec S16 32) : Prop :=
  (∀ a x, ((![v870] : Fin 1 → IVec S16 32) a x).toNat < S65536.size a)
theorem k1_idx178_inb : ∀ (v870 : IVec S16 32) (k1_hw178 : k1_chk178 v870), ∀ a x, ((![v870] : Fin 1 → IVec S16 32) a x).toNat < S65536.size a := fun v870 k1_hw178 => k1_hw178

def k1_chk179 (v872 : IVec S16 32) : Prop :=
  (∀ a x, ((![v872] : Fin 1 → IVec S16 32) a x).toNat < S8192.size a)
theorem k1_idx179_inb : ∀ (v872 : IVec S16 32) (k1_hw179 : k1_chk179 v872), ∀ a x, ((![v872] : Fin 1 → IVec S16 32) a x).toNat < S8192.size a := fun v872 k1_hw179 => k1_hw179

def k1_chk180 (v875 : IVec S16 32) : Prop :=
  (∀ a x, ((![v875] : Fin 1 → IVec S16 32) a x).toNat < S32768.size a)
theorem k1_idx180_inb : ∀ (v875 : IVec S16 32) (k1_hw180 : k1_chk180 v875), ∀ a x, ((![v875] : Fin 1 → IVec S16 32) a x).toNat < S32768.size a := fun v875 k1_hw180 => k1_hw180
@[reducible] def k1_t61_loop : Scf.Loop 32 :=
  let c0_i32_666 : BitVec 32 := 0#32
  let c1024_i32_667 : BitVec 32 := 1024#32
  let v828 : BitVec 32 := Scalar.addi c0_i32_666 c1024_i32_667
  let c1_i32_668 : BitVec 32 := 1#32
  ⟨c0_i32_666, v828, c1_i32_668⟩

def k1_chk181 (v870 : IVec S16 32) : Prop :=
  (∀ a x, ((![v870] : Fin 1 → IVec S16 32) a x).toNat < S65536.size a)
theorem k1_idx181_inb : ∀ (v870 : IVec S16 32) (k1_hw181 : k1_chk181 v870), ∀ a x, ((![v870] : Fin 1 → IVec S16 32) a x).toNat < S65536.size a := fun v870 k1_hw181 => k1_hw181

def k1_chk182 (v872 : IVec S16 32) : Prop :=
  (∀ a x, ((![v872] : Fin 1 → IVec S16 32) a x).toNat < S8192.size a)
theorem k1_idx182_inb : ∀ (v872 : IVec S16 32) (k1_hw182 : k1_chk182 v872), ∀ a x, ((![v872] : Fin 1 → IVec S16 32) a x).toNat < S8192.size a := fun v872 k1_hw182 => k1_hw182

def k1_chk183 (v875 : IVec S16 32) : Prop :=
  (∀ a x, ((![v875] : Fin 1 → IVec S16 32) a x).toNat < S32768.size a)
theorem k1_idx183_inb : ∀ (v875 : IVec S16 32) (k1_hw183 : k1_chk183 v875), ∀ a x, ((![v875] : Fin 1 → IVec S16 32) a x).toNat < S32768.size a := fun v875 k1_hw183 => k1_hw183
@[reducible] def k1_t62_loop : Scf.Loop 32 :=
  let c0_i32_676 : BitVec 32 := 0#32
  let c1024_i32_677 : BitVec 32 := 1024#32
  let v840 : BitVec 32 := Scalar.addi c0_i32_676 c1024_i32_677
  let c1_i32_678 : BitVec 32 := 1#32
  ⟨c0_i32_676, v840, c1_i32_678⟩

def k1_chk184 (v870 : IVec S16 32) : Prop :=
  (∀ a x, ((![v870] : Fin 1 → IVec S16 32) a x).toNat < S65536.size a)
theorem k1_idx184_inb : ∀ (v870 : IVec S16 32) (k1_hw184 : k1_chk184 v870), ∀ a x, ((![v870] : Fin 1 → IVec S16 32) a x).toNat < S65536.size a := fun v870 k1_hw184 => k1_hw184

def k1_chk185 (v872 : IVec S16 32) : Prop :=
  (∀ a x, ((![v872] : Fin 1 → IVec S16 32) a x).toNat < S8192.size a)
theorem k1_idx185_inb : ∀ (v872 : IVec S16 32) (k1_hw185 : k1_chk185 v872), ∀ a x, ((![v872] : Fin 1 → IVec S16 32) a x).toNat < S8192.size a := fun v872 k1_hw185 => k1_hw185

def k1_chk186 (v875 : IVec S16 32) : Prop :=
  (∀ a x, ((![v875] : Fin 1 → IVec S16 32) a x).toNat < S32768.size a)
theorem k1_idx186_inb : ∀ (v875 : IVec S16 32) (k1_hw186 : k1_chk186 v875), ∀ a x, ((![v875] : Fin 1 → IVec S16 32) a x).toNat < S32768.size a := fun v875 k1_hw186 => k1_hw186
@[reducible] def k1_t63_loop : Scf.Loop 32 :=
  let c0_i32_688 : BitVec 32 := 0#32
  let c1024_i32_689 : BitVec 32 := 1024#32
  let v855 : BitVec 32 := Scalar.addi c0_i32_688 c1024_i32_689
  let c1_i32_690 : BitVec 32 := 1#32
  ⟨c0_i32_688, v855, c1_i32_690⟩

def k1_chk187 (v870 : IVec S16 32) : Prop :=
  (∀ a x, ((![v870] : Fin 1 → IVec S16 32) a x).toNat < S65536.size a)
theorem k1_idx187_inb : ∀ (v870 : IVec S16 32) (k1_hw187 : k1_chk187 v870), ∀ a x, ((![v870] : Fin 1 → IVec S16 32) a x).toNat < S65536.size a := fun v870 k1_hw187 => k1_hw187

def k1_chk188 (v872 : IVec S16 32) : Prop :=
  (∀ a x, ((![v872] : Fin 1 → IVec S16 32) a x).toNat < S8192.size a)
theorem k1_idx188_inb : ∀ (v872 : IVec S16 32) (k1_hw188 : k1_chk188 v872), ∀ a x, ((![v872] : Fin 1 → IVec S16 32) a x).toNat < S8192.size a := fun v872 k1_hw188 => k1_hw188

def k1_chk189 (v875 : IVec S16 32) : Prop :=
  (∀ a x, ((![v875] : Fin 1 → IVec S16 32) a x).toNat < S32768.size a)
theorem k1_idx189_inb : ∀ (v875 : IVec S16 32) (k1_hw189 : k1_chk189 v875), ∀ a x, ((![v875] : Fin 1 → IVec S16 32) a x).toNat < S32768.size a := fun v875 k1_hw189 => k1_hw189
@[reducible] def k1_t64_loop : Scf.Loop 32 :=
  let c0_i32_698 : BitVec 32 := 0#32
  let c1024_i32_699 : BitVec 32 := 1024#32
  let v867 : BitVec 32 := Scalar.addi c0_i32_698 c1024_i32_699
  let c1_i32_700 : BitVec 32 := 1#32
  ⟨c0_i32_698, v867, c1_i32_700⟩

def k1_chk190 (v870 : IVec S16 32) : Prop :=
  (∀ a x, ((![v870] : Fin 1 → IVec S16 32) a x).toNat < S65536.size a)
theorem k1_idx190_inb : ∀ (v870 : IVec S16 32) (k1_hw190 : k1_chk190 v870), ∀ a x, ((![v870] : Fin 1 → IVec S16 32) a x).toNat < S65536.size a := fun v870 k1_hw190 => k1_hw190

def k1_chk191 (v872 : IVec S16 32) : Prop :=
  (∀ a x, ((![v872] : Fin 1 → IVec S16 32) a x).toNat < S8192.size a)
theorem k1_idx191_inb : ∀ (v872 : IVec S16 32) (k1_hw191 : k1_chk191 v872), ∀ a x, ((![v872] : Fin 1 → IVec S16 32) a x).toNat < S8192.size a := fun v872 k1_hw191 => k1_hw191

def k1_chk192 (v875 : IVec S16 32) : Prop :=
  (∀ a x, ((![v875] : Fin 1 → IVec S16 32) a x).toNat < S32768.size a)
theorem k1_idx192_inb : ∀ (v875 : IVec S16 32) (k1_hw192 : k1_chk192 v875), ∀ a x, ((![v875] : Fin 1 → IVec S16 32) a x).toNat < S32768.size a := fun v875 k1_hw192 => k1_hw192
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1024 : Shape := ⟨2, ![64, 1024]⟩
abbrev S32768x1024 : Shape := ⟨2, ![32768, 1024]⟩
abbrev S8388608 : Shape := ⟨1, ![8388608]⟩
abbrev S32768 : Shape := ⟨1, ![32768]⟩
abbrev S0 : Shape := ⟨1, ![0]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x1024x1 : Shape := ⟨3, ![32768, 1024, 1]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S64x1024, .i32⟩
  | .hbm, ⟨1, _⟩ => ⟨S32768x1024, .f32⟩
  | .hbm, ⟨2, _⟩ => ⟨S8388608, .f32⟩
  | .hbm, ⟨3, _⟩ => ⟨S32768, .i32⟩
  | .hbm, ⟨4, _⟩ => ⟨S32768, .i32⟩
  | .hbm, ⟨5, _⟩ => ⟨S0, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S1, .i32⟩
  | .hbm, ⟨15, _⟩ => ⟨S_, .i32⟩
  | .hbm, ⟨16, _⟩ => ⟨S32768x1, .i32⟩
  | .hbm, ⟨17, _⟩ => ⟨S32768x1, .i1⟩
  | .hbm, ⟨18, _⟩ => ⟨S1x1, .i32⟩
  | .hbm, ⟨19, _⟩ => ⟨S32768x1, .i32⟩
  | .hbm, ⟨20, _⟩ => ⟨S32768x1, .i1⟩
  | .hbm, ⟨21, _⟩ => ⟨S32768x1, .i1⟩
  | .hbm, ⟨22, _⟩ => ⟨S_, .i1⟩
  | .hbm, ⟨23, _⟩ => ⟨S32768, .i1⟩
  | .hbm, ⟨24, _⟩ => ⟨S32768x1024, .i32⟩
  | .hbm, ⟨25, _⟩ => ⟨S32768x1024, .i1⟩
  | .hbm, ⟨26, _⟩ => ⟨S_, .i32⟩
  | .hbm, ⟨27, _⟩ => ⟨S32768x1024, .i32⟩
  | .hbm, ⟨28, _⟩ => ⟨S32768x1024, .i32⟩
  | .hbm, ⟨29, _⟩ => ⟨S32768x1, .i32⟩
  | .hbm, ⟨30, _⟩ => ⟨S32768x1024, .i32⟩
  | .hbm, ⟨31, _⟩ => ⟨S32768x1024, .i32⟩
  | .hbm, ⟨32, _⟩ => ⟨S_, .i32⟩
  | .hbm, ⟨33, _⟩ => ⟨S32768x1024, .i32⟩
  | .hbm, ⟨34, _⟩ => ⟨S32768x1024, .i1⟩
  | .hbm, ⟨35, _⟩ => ⟨S_, .i32⟩
  | .hbm, ⟨36, _⟩ => ⟨S32768x1024, .i32⟩
  | .hbm, ⟨37, _⟩ => ⟨S32768x1024, .i32⟩
  | .hbm, ⟨38, _⟩ => ⟨S32768x1024, .i32⟩
  | .hbm, ⟨39, _⟩ => ⟨S32768x1024x1, .i32⟩
  | .hbm, ⟨40, _⟩ => ⟨S1, .i32⟩
  | .hbm, ⟨41, _⟩ => ⟨S_, .i32⟩
  | .hbm, ⟨42, _⟩ => ⟨S32768x1024x1, .i32⟩
  | .hbm, ⟨43, _⟩ => ⟨S32768x1024x1, .i1⟩
  | .hbm, ⟨44, _⟩ => ⟨S1x1x1, .i32⟩
  | .hbm, ⟨45, _⟩ => ⟨S32768x1024x1, .i32⟩
  | .hbm, ⟨46, _⟩ => ⟨S32768x1024x1, .i1⟩
  | .hbm, ⟨47, _⟩ => ⟨S32768x1024x1, .i1⟩
  | .hbm, ⟨48, _⟩ => ⟨S_, .i1⟩
  | .hbm, ⟨49, _⟩ => ⟨S32768x1024, .i1⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | _, _ => ⟨S64x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_c_4 : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩

abbrev nD : Nat := 1
abbrev τ : Topo := Topo.v7x

variable {F : FTy → Type} [FloatOps F]
-- ==== Proof.TilePrinted.lean ====
/-
  The printed tile body is the tile's program chunk by chunk (TileProg.lean).
-/
module

public import proofs.«01_k».proof.Proof.TileProg
public import proofs.«01_k».proof.Proof.Gen.Kernel.Skeleton

@[expose] public section

set_option maxRecDepth 1000000

noncomputable section

namespace Cert.Kernel.Tile

open Cert.Kernel Cert.Kernel.Gen
open Idealize.ShloMosaic
open Idealize.SL Idealize.SL.Sem

variable {F : FTy → Type} [FloatOps F]

set_option maxHeartbeats 0 in
/-- The printed body on the arrays, the scratch and the cells it is called with, is the tile's program. -/
theorem printed_eq (i : grid1.Coords) :
    cc1__sc_gather (F := F) i (Memref.whole main_v2_scv) (Memref.isWhole_whole _) (Memref.whole main_arg3_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 = prog i := by
  rw [cc1__sc_gather_eq_skeleton]
  simp only [cc1__sc_gather_skel, k1_part36_eq_skeleton, k1_part36_skel, k1_part35_eq_skeleton, k1_part35_skel, k1_part34_eq_skeleton, k1_part34_skel, k1_part33_eq_skeleton, k1_part33_skel, k1_part32_eq_skeleton, k1_part32_skel, k1_part31_eq_skeleton, k1_part31_skel, k1_part30_eq_skeleton, k1_part30_skel, k1_part29_eq_skeleton, k1_part29_skel, k1_part28_eq_skeleton, k1_part28_skel, k1_part27_eq_skeleton, k1_part27_skel, k1_part26_eq_skeleton, k1_part26_skel, k1_part25_eq_skeleton, k1_part25_skel, k1_part24_eq_skeleton, k1_part24_skel, k1_part23_eq_skeleton, k1_part23_skel, k1_part22_eq_skeleton, k1_part22_skel, k1_part21_eq_skeleton, k1_part21_skel, k1_part20_eq_skeleton, k1_part20_skel, k1_part19_eq_skeleton, k1_part19_skel, k1_part18_eq_skeleton, k1_part18_skel, k1_part17_eq_skeleton, k1_part17_skel, k1_part16_eq_skeleton, k1_part16_skel, k1_part15_eq_skeleton, k1_part15_skel, k1_part14_eq_skeleton, k1_part14_skel, k1_part13_eq_skeleton, k1_part13_skel, k1_part12_eq_skeleton, k1_part12_skel, k1_part11_eq_skeleton, k1_part11_skel, k1_part10_eq_skeleton, k1_part10_skel, k1_part9_eq_skeleton, k1_part9_skel, k1_part8_eq_skeleton, k1_part8_skel, k1_part7_eq_skeleton, k1_part7_skel, k1_part6_eq_skeleton, k1_part6_skel, k1_part5_eq_skeleton, k1_part5_skel, k1_part4_eq_skeleton, k1_part4_skel, k1_part3_eq_skeleton, k1_part3_skel, k1_part2_eq_skeleton, k1_part2_skel, k1_part1_eq_skeleton, k1_part1_skel, bind_assoc, pure_bind]
  rfl

end Cert.Kernel.Tile
-- ==== Proof.IdealTileProg.lean ====
/-
  The tile's program, chunk by chunk: the printed body is thirty-two chunks of thirty-two nodes, written out one after the
  other and cut into windows; here it is one prologue and one chunk at a symbolic number, repeated.
-/
module

public import proofs.«01_k».proof.Proof.Gen.KernelIdeal

@[expose] public section

set_option maxRecDepth 65536

noncomputable section

namespace Cert.KernelIdeal.Tile

open Cert.KernelIdeal Cert.KernelIdeal.Gen
open Idealize.ShloMosaic
open Idealize.SL Idealize.SL.Sem

variable {F : FTy → Type} [FloatOps F]

/-- The lanes' numbers, 0 to 15. -/
abbrev lane : IVec S16 32 := iota .scVector S16 32 [0] iota_S16_d0_w32_scVector

/-- The sixteen node rows of group `g` in a chunk. -/
abbrev rowIx (g : BitVec 32) : IVec S16 32 := addi (broadcast S16 g) lane

/-- Where column `b` of the sixteen patterns `v` lies in the data table. -/
abbrev dataIx (v : Vec F S16 .i32) (b : BitVec 32) : IVec S16 32 := addi (muli v (broadcast S16 1024#32)) (broadcast S16 b)

/-- Where the parameter of data value `d` of group `g`'s rows lies in the chunk's rows. -/
abbrev rowsIx (g : BitVec 32) (d : Vec F S16 .i32) : IVec S16 32 := addi (muli (rowIx g) (broadcast S16 256#32)) d

/-- Where column `b` of group `g`'s rows lies in the chunk's output. -/
abbrev outIx (g : BitVec 32) (b : BitVec 32) : IVec S16 32 := addi (muli (rowIx g) (broadcast S16 1024#32)) (broadcast S16 b)

/-- The processor of the grid's point. -/
abbrev procOf (i : grid1.Coords) : Proc τ := .scVector ((i 0).castLE hcore1) ((i 1).castLE hsub1)

/-- One trip of a group's loop: column `b` of the sixteen rows of group `g`, whose patterns are `v`. -/
def trip (i : grid1.Coords) (g : BitVec 32) (v : Vec F S16 .i32) (k : Fin k1_t1_loop.trips) (_ : Unit) :
    Prog (TpuEff nD τ sig (Elt F) Λ₀ (procOf i)) Unit := do
  have k1_hw1 : k1_chk1 (dataIx v (Scf.iv 0#32 1#32 k)) := (← Prog.lift (TpuEff.assume (k1_chk1 (dataIx v (Scf.iv 0#32 1#32 k))) (k1_chk1.dec _))).down
  let d : Vec F S16 .i32 ← SparseCore.vectorLoadIdx (Memref.whole cc1_scratch0) ![dataIx v (Scf.iv 0#32 1#32 k)] (k1_idx1_inb _ k1_hw1) (View.loads_vmem h_S65536)
  have k1_hw2 : k1_chk2 (rowsIx g d) := (← Prog.lift (TpuEff.assume (k1_chk2 (rowsIx g d)) (k1_chk2.dec _))).down
  let x : Vec F S16 .f32 ← SparseCore.vectorLoadIdx (Memref.whole cc1_scratch2) ![rowsIx g d] (k1_idx2_inb _ k1_hw2) (View.loads_vmem h_S8192)
  have k1_hw3 : k1_chk3 (outIx g (Scf.iv 0#32 1#32 k)) := (← Prog.lift (TpuEff.assume (k1_chk3 (outIx g (Scf.iv 0#32 1#32 k))) (k1_chk3.dec _))).down
  SparseCore.vectorStoreIdx (Memref.whole cc1_scratch3) ![outIx g (Scf.iv 0#32 1#32 k)] x (fun _ => 1#1) false (k1_idx3_inb _ k1_hw3) (View.stores_vmem_bits_univ h_S32768 rfl)
  pure ⟨⟩

/-- The cell of transfer `n` of the tile's sixty-six. -/
def cell (n : Nat) (h : n < 66) : DmaSem sig := ⟨n + 4, by change n + 4 < 70; omega⟩

/-- Sixteen patterns from `n` lie among the tile's. -/
theorem vids_inb (n : Nat) (h : n + 16 ≤ 1024) : ∀ a, (![n] : Fin 1 → Nat) a + S16.size a ≤ S1024.size a := by
  intro a; have : a = 0 := Subsingleton.elim _ _; subst this; exact h

/-- Group `g` (0 or 16) at node `n` of the tile, ahead of `K`: the sixteen patterns read, then the loop over the 1024 columns. -/
def group (i : grid1.Coords) (n : Nat) (h : n + 16 ≤ 1024) (g : BitVec 32) (K : Prog (TpuEff nD τ sig (Elt F) Λ₀ (procOf i)) Unit) :
    Prog (TpuEff nD τ sig (Elt F) Λ₀ (procOf i)) Unit := do
  let v : Vec F S16 .i32 ← Prog.lift (.load (Memref.whole cc1_scratch1) (Rect.unit (s := S1024) ![n] S16.size (vids_inb n h)).toLoadRect (View.loadsAt_vmem h_S16))
  Scf.Loop.for k1_t1_loop k1_t1_ok ⟨⟩ (trip i g v)
  K

/-- Chunk `c`'s rows of the parameters. -/
def rowsSrc (i : grid1.Coords) (c : Fin 32) : Memref sig .scVector .hbm S8192 .f32 :=
  (Memref.whole main_v3_scv).slice (Rect.unit (s := S8388608) (k1_off2 i (BitVec.ofNat 32 (32 * c.val))) S8192.size (k1_off2_inb i c)) (fun _ => rfl)

/-- Chunk `c`'s place in the result. -/
def outDst (i : grid1.Coords) (c : Fin 32) : Memref sig .scVector .hbm S32768 .f32 :=
  (Memref.whole main_v4_scv).slice (Rect.unit (s := S33554432) (k1_off3 i (BitVec.ofNat 32 (32 * c.val))) S32768.size (k1_off3_inb i c)) (fun _ => rfl)

/-- Chunk `c` ahead of `K`: its parameter rows fetched, its two groups gathered, its output copied out. -/
def chunk (i : grid1.Coords) (c : Fin 32) (K : Prog (TpuEff nD τ sig (Elt F) Λ₀ (procOf i)) Unit) : Prog (TpuEff nD τ sig (Elt F) Λ₀ (procOf i)) Unit := do
  Prog.lift (.enqueueDma (rowsSrc i c) (.here (Memref.whole cc1_scratch2)) (.dma (cell (2 * c.val + 2) (by omega))) (View.wordExact_bits rfl) (Memref.isWhole_whole cc1_scratch2).wordExact ⟨Or.inl rfl, trivial⟩)
  Prog.lift (.waitDma2 (cell (2 * c.val + 2) (by omega)) (rowsSrc i c) (Memref.whole cc1_scratch2) (View.wordExact_bits rfl) (Memref.isWhole_whole cc1_scratch2).wordExact)
  group i (32 * c.val) (by omega) 0#32 (group i (32 * c.val + 16) (by omega) 16#32 (do
    Prog.lift (.enqueueDma (Memref.whole cc1_scratch3) (.here (outDst i c)) (.dma (cell (2 * c.val + 3) (by omega))) (Memref.isWhole_whole cc1_scratch3).wordExact (View.wordExact_bits rfl) ⟨Or.inl rfl, trivial⟩)
    Prog.lift (.waitDma2 (cell (2 * c.val + 3) (by omega)) (Memref.whole cc1_scratch3) (outDst i c) (Memref.isWhole_whole cc1_scratch3).wordExact (View.wordExact_bits rfl))
    K))

/-- The last `k` chunks, from chunk `n` on. -/
def chunksFrom (i : grid1.Coords) : (k n : Nat) → n + k = 32 → Prog (TpuEff nD τ sig (Elt F) Λ₀ (procOf i)) Unit
  | 0, _, _ => pure ⟨⟩
  | k + 1, n, h => chunk i ⟨n, by omega⟩ (chunksFrom i k (n + 1) (by omega))

/-- The tile's patterns in the array of all of them. -/
def vidsSrc (i : grid1.Coords) : Memref sig .scVector .hbm S1024 .i32 :=
  (Memref.whole main_arg3_scv).slice (Rect.unit (s := S32768) (k1_off1 i) S1024.size (k1_off1_inb i)) (fun _ => rfl)

/-- The tile's program: the data table and the tile's patterns fetched, then the chunks. -/
def prog (i : grid1.Coords) : Prog (TpuEff nD τ sig (Elt F) Λ₀ (procOf i)) Unit := do
  Prog.lift (.enqueueDma (Memref.whole main_v2_scv) (.here (Memref.whole cc1_scratch0)) (.dma (cell 0 (by omega))) (Memref.isWhole_whole main_v2_scv).wordExact (Memref.isWhole_whole cc1_scratch0).wordExact ⟨Or.inl rfl, trivial⟩)
  Prog.lift (.waitDma2 (cell 0 (by omega)) (Memref.whole main_v2_scv) (Memref.whole cc1_scratch0) (Memref.isWhole_whole main_v2_scv).wordExact (Memref.isWhole_whole cc1_scratch0).wordExact)
  Prog.lift (.enqueueDma (vidsSrc i) (.here (Memref.whole cc1_scratch1)) (.dma (cell 1 (by omega))) (View.wordExact_bits rfl) (Memref.isWhole_whole cc1_scratch1).wordExact ⟨Or.inl rfl, trivial⟩)
  Prog.lift (.waitDma2 (cell 1 (by omega)) (vidsSrc i) (Memref.whole cc1_scratch1) (View.wordExact_bits rfl) (Memref.isWhole_whole cc1_scratch1).wordExact)
  chunksFrom i 32 0 rfl

end Cert.KernelIdeal.Tile
-- ==== Proof.IdealTileVal.lean ====
/-
  What a tile computes, chunk by chunk: the value of a chunk's output in terms of the data table, the tile's patterns and
  the chunk's parameter rows, and what one trip of a group's loop adds to it.
-/
module

public import proofs.«01_k».proof.Proof.IdealTileProg

@[expose] public section

set_option maxRecDepth 65536

noncomputable section

namespace Cert.KernelIdeal.Tile

open Cert.KernelIdeal Cert.KernelIdeal.Gen
open Idealize.ShloMosaic
open Idealize.SL Idealize.SL.Sem

variable {F : FTy → Type} [FloatOps F]

/-! ## Positions -/

/-- The index of a shape whose every coordinate is `n` (taken modulo the extent, so that it is always one). -/
def pos (s : Shape) (hs : ∀ a, 0 < s.size a) (n : ℕ) : s.Idx := fun a => ⟨n % s.size a, Nat.mod_lt _ (hs a)⟩

/-- An index whose every coordinate is `n` is the one so named. -/
theorem pos_of_val {s : Shape} (hs : ∀ a, 0 < s.size a) {n : ℕ} {j : s.Idx} (h : ∀ a, (j a).val = n) : pos s hs n = j := by
  funext a
  apply Fin.ext
  show n % s.size a = (j a).val
  rw [← h a]
  exact Nat.mod_eq_of_lt (j a).isLt

/-- A vector that is not empty has an index. -/
theorem one_pos {n : ℕ} (h : 0 < n) : ∀ a : Fin 1, 0 < (![n] : Fin 1 → ℕ) a := fun a => by
  obtain rfl : a = 0 := Subsingleton.elim _ _
  exact h

/-- Position `n` in the flat data, -/
abbrev pData (n : ℕ) : S65536.Idx := pos S65536 (one_pos (by decide)) n
/-- in the tile's variables, -/
abbrev pVids (n : ℕ) : S1024.Idx := pos S1024 (one_pos (by decide)) n
/-- and in the chunk's parameters. -/
abbrev pRows (n : ℕ) : S8192.Idx := pos S8192 (one_pos (by decide)) n

/-! ## The chunk's value -/

/-- The value of a chunk's output at its flat position `j`: row `j / 1024` of the chunk, column `j % 1024`; the parameter of
    that row at the data value of the row's pattern and the column. -/
def chunkVal (dt : Vec F S65536 .i32) (vt : Vec F S1024 .i32) (ps : Vec F S8192 .f32) (c : ℕ) : Vec F S32768 .f32 := fun j =>
  ps (pRows ((j 0).val / 1024 * 256 + (dt (pData ((vt (pVids (32 * c + (j 0).val / 1024))).toNat * 1024 + (j 0).val % 1024))).toNat))

/-- The contents `f` hold the chunk's value in every row below `g`, and in the first `t` columns of the sixteen rows from `g`. -/
def Done (dt : Vec F S65536 .i32) (vt : Vec F S1024 .i32) (ps : Vec F S8192 .f32) (c g t : ℕ) (f : Vec F S32768 .f32) : Prop :=
  ∀ j, (j 0).val / 1024 < g ∨ ((j 0).val / 1024 < g + 16 ∧ (j 0).val % 1024 < t) → f j = chunkVal dt vt ps c j

/-- At first nothing need be done. -/
theorem Done.zero (dt : Vec F S65536 .i32) (vt : Vec F S1024 .i32) (ps : Vec F S8192 .f32) (c : ℕ) (f : Vec F S32768 .f32) :
    Done dt vt ps c 0 0 f := fun j h => by omega

/-- When all columns of a group are done, the next group begins. -/
theorem Done.next {dt : Vec F S65536 .i32} {vt : Vec F S1024 .i32} {ps : Vec F S8192 .f32} {c g : ℕ} {f : Vec F S32768 .f32}
    (h : Done dt vt ps c g 1024 f) : Done dt vt ps c (g + 16) 0 f := fun j hj => h j (by
  have := Nat.mod_lt (j 0).val (show 0 < 1024 by decide)
  omega)

/-- When both groups are done, the output holds the chunk's value. -/
theorem Done.all {dt : Vec F S65536 .i32} {vt : Vec F S1024 .i32} {ps : Vec F S8192 .f32} {c : ℕ} {f : Vec F S32768 .f32}
    (h : Done dt vt ps c 32 0 f) : f = chunkVal dt vt ps c := funext fun j => h j (by
  have h1 : (j 0).val < 32768 := (j 0).isLt
  have : (j 0).val / 1024 < 32 := by omega
  exact Or.inl this)

/-! ## The index vectors -/

/-- A lane's number is its place. -/
theorem lane_toNat (x : S16.Idx) : (lane x).toNat = (x 0).val := by
  have h : (x 0).val < 16 := (x 0).isLt
  have e : lane x = BitVec.ofNat 32 (0 * 16 + (x 0).val) := rfl
  rw [e, BitVec.toNat_ofNat]
  omega

/-- A lane's row in the chunk. -/
theorem rowIx_toNat {g : BitVec 32} (hg : g.toNat ≤ 16) (x : S16.Idx) : (rowIx g x).toNat = g.toNat + (x 0).val := by
  have h : (x 0).val < 16 := (x 0).isLt
  have e : rowIx g x = g + lane x := rfl
  rw [e, BitVec.toNat_add, lane_toNat]
  omega

/-- Where a lane's category lies in the flat data. -/
theorem dataIx_toNat {v : Vec F S16 .i32} {b : BitVec 32} {x : S16.Idx} (hv : (v x).toNat < 64) (hb : b.toNat < 1024) :
    (dataIx v b x).toNat = (v x).toNat * 1024 + b.toNat := by
  have e : dataIx v b x = (v x : BitVec 32) * 1024#32 + b := rfl
  rw [e, BitVec.toNat_add, BitVec.toNat_mul]
  simp only [BitVec.toNat_ofNat]
  omega

/-- Where a lane's parameter lies among the chunk's. -/
theorem rowsIx_toNat {g : BitVec 32} (hg : g.toNat ≤ 16) {d : Vec F S16 .i32} {x : S16.Idx} (hd : (d x).toNat < 256) :
    (rowsIx g d x).toNat = (g.toNat + (x 0).val) * 256 + (d x).toNat := by
  have h : (x 0).val < 16 := (x 0).isLt
  have e : rowsIx g d x = rowIx g x * 256#32 + (d x : BitVec 32) := rfl
  rw [e, BitVec.toNat_add, BitVec.toNat_mul, rowIx_toNat hg]
  simp only [BitVec.toNat_ofNat]
  omega

/-- Where a lane's value goes in the output. -/
theorem outIx_toNat {g : BitVec 32} (hg : g.toNat ≤ 16) {b : BitVec 32} (hb : b.toNat < 1024) (x : S16.Idx) :
    (outIx g b x).toNat = (g.toNat + (x 0).val) * 1024 + b.toNat := by
  have h : (x 0).val < 16 := (x 0).isLt
  have e : outIx g b x = rowIx g x * 1024#32 + b := rfl
  rw [e, BitVec.toNat_add, BitVec.toNat_mul, rowIx_toNat hg]
  simp only [BitVec.toNat_ofNat]
  omega

/-- A group's loop has 1024 trips. -/
theorem trips_eq : k1_t1_loop.trips = 1024 := by decide +kernel

/-- A trip's column is its number. -/
theorem iv_toNat {k : ℕ} (hk : k < 1024) : (Scf.iv 0#32 1#32 k).toNat = k := by
  unfold Scf.iv
  simp only [BitVec.toNat_add, BitVec.toNat_mul, BitVec.toNat_ofNat]
  omega

/-- The indices into the data are in range, -/
theorem chk1 {v : Vec F S16 .i32} {b : BitVec 32} (hv : ∀ x, (v x).toNat < 64) (hb : b.toNat < 1024) : k1_chk1 (dataIx v b) := by
  intro a x
  obtain rfl : a = 0 := Subsingleton.elim _ _
  show (dataIx v b x).toNat < 65536
  rw [dataIx_toNat (hv x) hb]
  have := hv x
  omega

/-- those into the parameters, -/
theorem chk2 {g : BitVec 32} (hg : g.toNat ≤ 16) {d : Vec F S16 .i32} (hd : ∀ x, (d x).toNat < 256) : k1_chk2 (rowsIx g d) := by
  intro a x
  obtain rfl : a = 0 := Subsingleton.elim _ _
  show (rowsIx g d x).toNat < 8192
  rw [rowsIx_toNat hg (hd x)]
  have := hd x
  have h : (x 0).val < 16 := (x 0).isLt
  omega

/-- and those into the output. -/
theorem chk3 {g : BitVec 32} (hg : g.toNat ≤ 16) {b : BitVec 32} (hb : b.toNat < 1024) : k1_chk3 (outIx g b) := by
  intro a x
  obtain rfl : a = 0 := Subsingleton.elim _ _
  show (outIx g b x).toNat < 32768
  rw [outIx_toNat hg hb x]
  have h : (x 0).val < 16 := (x 0).isLt
  omega

/-! ## A scatter's value at one position -/

/-- Folding steps each of which either sets position `j` to `w` or leaves it: `w` is there if some step sets it or it was. -/
theorem foldl_at {ι α β : Type} (j : ι) (w : α) (P : β → Prop) (step : (ι → α) → β → ι → α)
    (hit : ∀ g k, P k → step g k j = w) (miss : ∀ g k, ¬ P k → step g k j = g j) :
    ∀ (l : List β) (g : ι → α), ((∃ k ∈ l, P k) ∨ g j = w) → l.foldl step g j = w := by
  intro l
  induction l with
  | nil => intro g hg; simpa using hg
  | cons k l ih =>
    intro g hg
    rw [List.foldl_cons]
    apply ih
    by_cases hk : P k
    · exact Or.inr (hit g k hk)
    · rcases hg with ⟨k', hk', hh⟩ | hg
      · rcases List.mem_cons.mp hk' with rfl | hm
        · exact absurd hh hk
        · exact Or.inl ⟨k', hm, hh⟩
      · exact Or.inr ((miss g k hk).trans hg)

/-- A whole scatter over what is there, at position `j`: if every lane that names `j` holds `w`, and either some lane names `j`
    or `w` was there, then `w` is there after it. -/
theorem storeIdx_at {s : Shape} {e : EltTy} {d : Fin 1 → ℕ} (f : Vec F s e) (idxs : Fin s.rank → IVec ⟨1, d⟩ 32) (v : Vec F ⟨1, d⟩ e)
    (h : ∀ a x, (idxs a x).toNat < s.size a) (j : s.Idx) (w : Elt F e)
    (hv : ∀ x, (∀ a, (j a).val = (idxs a x).toNat) → v x = w)
    (h0 : (∃ x, ∀ a, (j a).val = (idxs a x).toNat) ∨ f j = w) :
    storeIdx f idxs v (fun _ => 1#1) false h j = w := by
  unfold storeIdx
  refine foldl_at j w (fun k => ∀ a, (j a).val = (idxs a (Shape.ofLane k)).toNat) _ ?_ ?_ _ _ ?_
  · intro g k hk
    have hk' : ∀ a, (j a).val = (idxAt idxs h (Shape.ofLane k) a).val := hk
    simp [hk', hv _ hk]
  · intro g k hk
    have hk' : ¬ ∀ a, (j a).val = (idxAt idxs h (Shape.ofLane k) a).val := hk
    simp [hk']
  rcases h0 with ⟨x, hx⟩ | h0
  · refine Or.inl ⟨(x 0 : Fin (d 0)), List.mem_finRange _, ?_⟩
    have : (Shape.ofLane (x 0 : Fin (d 0)) : (⟨1, d⟩ : Shape).Idx) = x := by
      funext a
      obtain rfl : a = 0 := Subsingleton.elim _ _
      rfl
    rw [this]; exact hx
  · exact Or.inr h0

/-! ## One trip -/

/-- One trip's scatter takes the progress from `t` columns to `t + 1`. -/
theorem Done.trip {dt : Vec F S65536 .i32} {vt : Vec F S1024 .i32} {ps : Vec F S8192 .f32} {c t : ℕ} {g : BitVec 32} (hg : g.toNat ≤ 16)
    (ht : t < 1024) (hvt : ∀ x, (vt x).toNat < 64) (hdt : ∀ x, (dt x).toNat < 256) {f : Vec F S32768 .f32}
    (v : Vec F S16 .i32) (hv : ∀ x, v x = vt (pVids (32 * c + g.toNat + (x 0).val)))
    (h1 : ∀ a x, ((![dataIx v (Scf.iv 0#32 1#32 t)] : Fin 1 → IVec S16 32) a x).toNat < S65536.size a)
    (h2 : ∀ a x, ((![rowsIx g (loadIdx dt ![dataIx v (Scf.iv 0#32 1#32 t)] h1)] : Fin 1 → IVec S16 32) a x).toNat < S8192.size a)
    (h3 : ∀ a x, ((![outIx g (Scf.iv 0#32 1#32 t)] : Fin 1 → IVec S16 32) a x).toNat < S32768.size a)
    (hf : Done dt vt ps c g.toNat t f) :
    Done dt vt ps c g.toNat (t + 1) (storeIdx f ![outIx g (Scf.iv 0#32 1#32 t)]
      (loadIdx ps ![rowsIx g (loadIdx dt ![dataIx v (Scf.iv 0#32 1#32 t)] h1)] h2) (fun _ => 1#1) false h3) := by
  have hb : (Scf.iv 0#32 1#32 t).toNat = t := iv_toNat ht
  have hb' : (Scf.iv 0#32 1#32 t).toNat < 1024 := by omega
  intro j hj
  have hj0 : (j 0).val < 32768 := (j 0).isLt
  apply storeIdx_at
  · intro x hx
    have hx0 : (x 0).val < 16 := (x 0).isLt
    have e0 : (j 0).val = (g.toNat + (x 0).val) * 1024 + t := by
      have := hx 0
      rw [show ((![outIx g (Scf.iv 0#32 1#32 t)] : Fin 1 → IVec S16 32) 0 x) = outIx g (Scf.iv 0#32 1#32 t) x from rfl, outIx_toNat hg hb' x, hb] at this
      exact this
    have er : (j 0).val / 1024 = g.toNat + (x 0).val := by omega
    have ec : (j 0).val % 1024 = t := by omega
    have ed : loadIdx dt ![dataIx v (Scf.iv 0#32 1#32 t)] h1 x
        = dt (pData ((vt (pVids (32 * c + (j 0).val / 1024))).toNat * 1024 + (j 0).val % 1024)) := by
      unfold loadIdx
      congr 1
      symm
      apply pos_of_val
      intro a
      obtain rfl : a = 0 := Subsingleton.elim _ _
      show (dataIx v (Scf.iv 0#32 1#32 t) x).toNat = _
      rw [dataIx_toNat (by rw [hv]; exact hvt _) hb', hb, er, ec, hv, Nat.add_assoc]
    unfold chunkVal
    rw [← ed]
    show ps _ = ps _
    congr 1
    symm
    apply pos_of_val
    intro a
    obtain rfl : a = 0 := Subsingleton.elim _ _
    show (rowsIx g (loadIdx dt ![dataIx v (Scf.iv 0#32 1#32 t)] h1) x).toNat = _
    rw [rowsIx_toNat hg (hdt _), er]
  · by_cases hc : (j 0).val / 1024 < g.toNat ∨ ((j 0).val / 1024 < g.toNat + 16 ∧ (j 0).val % 1024 < t)
    · exact Or.inr (hf j hc)
    · left
      have hlt : (j 0).val / 1024 - g.toNat < 16 := by omega
      refine ⟨fun a => ⟨(j 0).val / 1024 - g.toNat, by
        obtain rfl : a = 0 := Subsingleton.elim _ _
        exact hlt⟩, fun a => ?_⟩
      obtain rfl : a = 0 := Subsingleton.elim _ _
      show (j 0).val = (outIx g (Scf.iv 0#32 1#32 t) _).toNat
      rw [outIx_toNat hg hb', hb]
      show (j 0).val = (g.toNat + ((j 0).val / 1024 - g.toNat)) * 1024 + t
      omega

end Cert.KernelIdeal.Tile
-- ==== Proof.IdealTileBody.lean ====
/-
  A tile's run, chunk by chunk: from shares of the three arrays it reads and the thirty-two pieces of the result it writes,
  the tile leaves every piece holding the gathered values.
-/
module

public import proofs.«01_k».proof.Proof.IdealTileVal
public import Idealize.ShloMosaic.Lib.SparseCore.Quiescent
public import Idealize.ShloMosaic.Lib.SparseCore.Ops
public import Idealize.ShloMosaic.Lib.Pipeline.Kit
public import Idealize.ShloMosaic.Lib.Tactic

@[expose] public section

set_option maxRecDepth 65536

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]

/-- No loop of a tile counts a variant down. -/
abbrev 𝒱₀ : Variants := Variants.none

/-- The grid point's thread on device `d`. -/
abbrev thr (d : Dev nD) (i : grid1.Coords) : Thread nD τ := (d, procOf i)

variable (d : Dev nD) (i : grid1.Coords)

/-- The cells of a tile's copies are its own. -/
theorem cell_scoped : ∀ n : Fin 66, (SemLoc.dma (cell n.val n.isLt) : SemLoc sig).isScoped .scVector = true := by decide

/-- What a tile holds between its copies: its cells at zero, that it may wait, and what it owes under the waits it has made. -/
def Idle (O : CellTallies nD τ sig (HIx 1)) (W : Waits sig (HIx 1)) : sProp 𝕄 :=
  iprop(ownSems0 (thr d i) ∗ Transfers.MayWaits (thr d i) (none : HIx 1) O
    ∗ ∃ W', ⌜∀ p ∈ W', p ∈ W ∨ p.2 = none⌝ ∗ owes (thr d i) O W')

include EC in
/-- A copy and its wait on one of the tile's cells: the destination is rewritten with the source, everything else comes back. -/
theorem wp_copy {sp sp' : Space} {s : Shape} {e : EltTy} {src : Memref sig .scVector sp s e} {dst : Memref sig .scVector sp' s e} {n : ℕ} (hn : n < 66)
    {hsrc : src.view.WordExact} {hdst : dst.view.WordExact} {hsem : DmaTarget.Typed (nD := nD) (τ := τ) (p := procOf i) sp (.dma (cell n hn)) (.here dst)}
    {hsrc' : src.view.WordExact} {hdst' : dst.view.WordExact}
    {k : Prog (TpuEff nD τ sig (Elt F) Λ₀ (procOf i)) Unit} {q : PosShare TreeShare} {fs : Buf (Elt F) (src.view.loc (thr d i))}
    {Sd : Finset (Idx (dst.view.loc (thr d i)))} {fd : Buf (Elt F) (dst.view.loc (thr d i))}
    (hs : 0 < s.numel) (hSd : dst.view.set ⊆ Sd) {O : CellTallies nD τ sig (HIx 1)} {W : Waits sig (HIx 1)} {Q : Unit → sProp 𝕄} :
    iprop(Idle d i O W ∗ (src.view.loc (thr d i) ↦[src.view.set]{q} fs) ∗ (dst.view.loc (thr d i) ↦[Sd]{fullShare} fd))
      ⊢ iprop((iprop(Idle d i O W ∗ (src.view.loc (thr d i) ↦[src.view.set]{q} fs)
              ∗ (dst.view.loc (thr d i) ↦[Sd]{fullShare} (dst.view.write (Elt F) fd (src.view.read (Elt F) fs) Finset.univ)))
            -∗ wp frame (wpE (defs₀ (F := F)) 𝒱₀ (thr d i) none) Set.univ k Q)
          -∗ wp frame (wpE (defs₀ (F := F)) 𝒱₀ (thr d i) none) Set.univ
              (.op (.enqueueDma src (.here dst) (.dma (cell n hn)) hsrc hdst hsem) fun _ => .op (.waitDma2 (cell n hn) src dst hsrc' hdst') fun _ => k) Q) := by
  unfold Idle SparseCore.Cfg.ownSems0
  rw [SparseCore.bigSep_erase' ((mem_ownCells (g := ((thr d i, .dma (cell n hn)) : GSem nD τ sig))).mpr ⟨rfl, cell_scoped ⟨n, hn⟩⟩)]
  iintro ⟨⟨⟨Hsem, Hrest⟩, #Hmw, %W', %hW', HO⟩, Hs, Hd⟩ Hk
  iapply (Transfers.wp_dmaLocal EC 𝒱₀ (thr d i) none (none : HIx 1) dst.view.dmaCredit rfl (View.dmaCredit_pos _ hs) hSd) $$ [Hs Hd Hsem]
  · isplitl [Hs]; · iexact Hs
    isplitl [Hd]; · iexact Hd
    iexact Hsem
  iintro Hfl
  iapply (Transfers.wp_waitLocalO EC 𝒱₀ (thr d i) none (none : HIx 1) rfl) $$ [Hfl HO]
  · isplitl [Hfl]; · iexact Hfl
    isplitl [HO]; · iexact HO
    iapply (Transfers.MayWaits.elim (SemLoc.dma (cell n hn))); iexact Hmw
  iintro ⟨⟨Hd, Hs⟩, Hsem, HO⟩
  iapply Hk
  isplitl [Hsem Hrest HO]
  · isplitl [Hsem Hrest]
    · isplitl [Hsem] <;> iassumption
    isplitr; · iexact Hmw
    iexists (insert (SemLoc.dma (cell n hn), (none : HIx 1)) W'); isplitr
    · ipureintro; intro p hp
      rcases Finset.mem_insert.mp hp with rfl | hp
      · exact .inr rfl
      · exact hW' p hp
    · iexact HO
  isplitl [Hs] <;> iassumption

/-! ## The scratch buffers -/

/-- The tile's copy of the data table. -/
abbrev B0 (f : Vec F S65536 .i32) : sProp 𝕄 := (Memref.whole cc1_scratch0).view.loc (thr d i) ↦{fullShare} f
/-- The tile's patterns. -/
abbrev B1 (f : Vec F S1024 .i32) : sProp 𝕄 := (Memref.whole cc1_scratch1).view.loc (thr d i) ↦{fullShare} f
/-- A chunk's parameter rows. -/
abbrev B2 (f : Vec F S8192 .f32) : sProp 𝕄 := (Memref.whole cc1_scratch2).view.loc (thr d i) ↦{fullShare} f
/-- A chunk's output. -/
abbrev B3 (f : Vec F S32768 .f32) : sProp 𝕄 := (Memref.whole cc1_scratch3).view.loc (thr d i) ↦{fullShare} f

/-- Buffer number `n` of a tile's own memory. -/
abbrev bn (n : Fin (sig.nNear .scVector .vmem)) (hn : sig.names .scVector .vmem n = true) : Ref sig .scVector := ⟨.vmem, n, hn⟩

section Whole

variable {n : Fin (sig.nNear .scVector .vmem)} {hn : sig.names .scVector .vmem n = true}

/-- An indexed load out of a buffer held whole gathers its contents. -/
theorem wp_loadIdx {t : Shape} {α : Type} {Q : α → sProp 𝕄} {idxs : Fin (Ref.ty (bn n hn)).shape.rank → IVec t 32}
    {h : ∀ a x, (idxs a x).toNat < (Ref.ty (bn n hn)).shape.size a} {hl : (Memref.whole (bn n hn)).view.Loads}
    {k : Vec F t (Ref.ty (bn n hn)).elt → Prog (TpuEff nD τ sig (Elt F) Λ₀ (procOf i)) α} (f : (Ref.ty (bn n hn)).Contents (Elt F)) :
    ((Memref.whole (bn n hn)).view.loc (thr d i) ↦{fullShare} f)
      ⊢ iprop((((Memref.whole (bn n hn)).view.loc (thr d i) ↦{fullShare} f)
          -∗ wp frame (wpE (defs₀ (F := F)) 𝒱₀ (thr d i) none) Set.univ (k (loadIdx f idxs h)) Q)
        -∗ wp frame (wpE (defs₀ (F := F)) 𝒱₀ (thr d i) none) Set.univ (SparseCore.vectorLoadIdx (Memref.whole (bn n hn)) idxs h hl >>= k) Q) := by
  have := SparseCore.wp_vectorLoadIdx (F := F) (U := U) (Name := ℕ) (Lvl := ℕ) (Ix := HIx 1) (defs := defs₀ (F := F)) 𝒱₀ (thr d i) none Set.univ (base := Memref.whole (bn n hn)) (S := Finset.univ)
    (q := fullShare) (Q := Q) (k := k) (idxs := idxs) (h := h) (hl := hl) (f := f) (Finset.subset_univ _)
  rw [Memref.read_access_whole] at this
  exact this

/-- An indexed store into a buffer held whole scatters onto its contents. -/
theorem wp_storeIdx {dd : Fin 1 → ℕ} {α : Type} {Q : α → sProp 𝕄} {idxs : Fin (Ref.ty (bn n hn)).shape.rank → IVec ⟨1, dd⟩ 32} {v : Vec F ⟨1, dd⟩ (Ref.ty (bn n hn)).elt}
    {mask : IVec ⟨1, dd⟩ 1} {add : Bool} {h : ∀ a x, (idxs a x).toNat < (Ref.ty (bn n hn)).shape.size a}
    {hs : ((Memref.whole (bn n hn)).access (.whole _)).Stores Finset.univ}
    {k : PUnit → Prog (TpuEff nD τ sig (Elt F) Λ₀ (procOf i)) α} (f : (Ref.ty (bn n hn)).Contents (Elt F)) :
    ((Memref.whole (bn n hn)).view.loc (thr d i) ↦{fullShare} f)
      ⊢ iprop((((Memref.whole (bn n hn)).view.loc (thr d i) ↦{fullShare} storeIdx f idxs v mask add h)
          -∗ wp frame (wpE (defs₀ (F := F)) 𝒱₀ (thr d i) none) Set.univ (k ⟨⟩) Q)
        -∗ wp frame (wpE (defs₀ (F := F)) 𝒱₀ (thr d i) none) Set.univ (SparseCore.vectorStoreIdx (Memref.whole (bn n hn)) idxs v mask add h hs >>= k) Q) := by
  have := SparseCore.wp_vectorStoreIdx (F := F) (U := U) (Name := ℕ) (Lvl := ℕ) (Ix := HIx 1) (defs := defs₀ (F := F)) 𝒱₀ (thr d i) none Set.univ (base := Memref.whole (bn n hn))
    (Q := Q) (k := k) (idxs := idxs) (v := v) (mask := mask) (add := add) (h := h) (hs := hs) (f := f)
  rw [Memref.read_access_whole, Memref.write_access_whole_univ, Memref.set_access_whole] at this
  exact this

end Whole

/-! ## A group's loop -/

/-- A group's loop after `t` trips: the table and the rows as they were, the output done up to column `t`. -/
def inv (dt : Vec F S65536 .i32) (vt : Vec F S1024 .i32) (ps : Vec F S8192 .f32) (c g : ℕ) (t : ℕ) (_ : Unit) : sProp 𝕄 :=
  iprop(B0 d i dt ∗ B2 d i ps ∗ ∃ f, ⌜Done dt vt ps c g t f⌝ ∗ B3 d i f)

/-- One trip of a group's loop: where the output is done up to column `t`, it is done up to the next. -/
theorem wp_trip {dt : Vec F S65536 .i32} {vt : Vec F S1024 .i32} {ps : Vec F S8192 .f32} {c : ℕ} {g : BitVec 32} (hg : g.toNat ≤ 16)
    (hvt : ∀ x, (vt x).toNat < 64) (hdt : ∀ x, (dt x).toNat < 256)
    (v : Vec F S16 .i32) (hv : ∀ x, v x = vt (pVids (32 * c + g.toNat + (x 0).val))) (t : Fin k1_t1_loop.trips) (a : Unit) :
    (inv d i dt vt ps c g.toNat t.val a : sProp 𝕄)
      ⊢ wp frame (wpE (defs₀ (F := F)) 𝒱₀ (thr d i) none) Set.univ (trip i g v t a) (inv d i dt vt ps c g.toNat (t.val + 1)) := by
  have ht : t.val < 1024 := lt_of_lt_of_eq t.isLt trips_eq
  have hb : (Scf.iv 0#32 1#32 t.val).toNat < 1024 := by rw [iv_toNat ht]; exact ht
  have hv' : ∀ x, (v x).toNat < 64 := fun x => by rw [hv]; exact hvt _
  unfold inv trip
  iintro ⟨H0, H2, %f, %hf, H3⟩
  rw [Prog.bind_lift, wp_assume_of _ _ _ _ (chk1 hv' hb)]
  iapply (wp_loadIdx d i (n := cc1_scratch0.idx) (hn := cc1_scratch0.names) dt) $$ H0
  iintro H0
  rw [Prog.bind_lift, wp_assume_of _ _ _ _ (chk2 (d := loadIdx dt ![dataIx v (Scf.iv 0#32 1#32 t.val)] (k1_idx1_inb _ (chk1 hv' hb))) hg fun x => hdt _)]
  iapply (wp_loadIdx d i (n := cc1_scratch2.idx) (hn := cc1_scratch2.names) ps) $$ H2
  iintro H2
  rw [Prog.bind_lift, wp_assume_of _ _ _ _ (chk3 hg hb)]
  iapply (wp_storeIdx d i (n := cc1_scratch3.idx) (hn := cc1_scratch3.names) f) $$ H3
  iintro H3
  rw [wp_pure]
  imodintro
  isplitl [H0]; · iexact H0
  isplitl [H2]; · iexact H2
  iexists _
  isplitr
  rotate_left
  · iexact H3
  · ipureintro
    exact Done.trip hg ht hvt hdt v hv _ _ _ hf

/-- What a load of sixteen patterns from node `n` on reads. -/
theorem readAt_vids (vt : Vec F S1024 .i32) (n : ℕ) (h : n + 16 ≤ 1024) (x : S16.Idx) :
    (Memref.whole cc1_scratch1).view.readAt (Elt F) (Rect.unit (s := S1024) ![n] S16.size (vids_inb n h)).toLoadRect vt x = vt (pVids (n + (x 0).val)) := by
  rw [View.readAt_apply]
  show vt _ = vt _
  congr 1
  symm
  apply pos_of_val
  intro a
  obtain rfl : a = 0 := Subsingleton.elim _ _
  show n + 1 * (x 0).val = n + (x 0).val
  omega

/-- A group takes the output from its rows not begun to its rows done. -/
theorem wp_group {dt : Vec F S65536 .i32} {vt : Vec F S1024 .i32} {ps : Vec F S8192 .f32} {c n : ℕ} {h : n + 16 ≤ 1024} {g : BitVec 32} (hg : g.toNat ≤ 16)
    (hn : n = 32 * c + g.toNat) (hvt : ∀ x, (vt x).toNat < 64) (hdt : ∀ x, (dt x).toNat < 256)
    {K : Prog (TpuEff nD τ sig (Elt F) Λ₀ (procOf i)) Unit} {Q : Unit → sProp 𝕄} :
    iprop(B1 d i vt ∗ inv d i dt vt ps c g.toNat 0 ())
      ⊢ iprop((iprop(B1 d i vt ∗ inv d i dt vt ps c (g.toNat + 16) 0 ())
            -∗ wp frame (wpE (defs₀ (F := F)) 𝒱₀ (thr d i) none) Set.univ K Q)
          -∗ wp frame (wpE (defs₀ (F := F)) 𝒱₀ (thr d i) none) Set.univ (group i n h g K) Q) := by
  unfold group
  iintro ⟨H1, HI⟩ Hk
  rw [Prog.bind_lift]
  iapply (wp_load 𝒱₀ (thr d i) none Set.univ (m := Memref.whole cc1_scratch1) (S := Finset.univ) (Finset.subset_univ _)) $$ H1
  iintro H1
  iapply (Scf.wp_for_bind frame (wpE (defs₀ (F := F)) 𝒱₀ (thr d i) none) Set.univ _ _ _ k1_t1_ok () _ (inv d i dt vt ps c g.toNat)
    (fun t a => wp_trip d i hg hvt hdt _ (fun x => by rw [readAt_vids vt n h, hn]) t a)) $$ HI
  iintro %_ HI
  iapply Hk
  isplitl [H1]; · iexact H1
  rw [show Scf.trips k1_t1_loop.lb k1_t1_loop.ub k1_t1_loop.st = 1024 from trips_eq]
  unfold inv
  icases HI with ⟨H0, H2, %f, %hf, H3⟩
  isplitl [H0]; · iexact H0
  isplitl [H2]; · iexact H2
  iexists f
  isplitr
  · ipureintro; exact hf.next
  · iexact H3

/-! ## A chunk -/

/-- The logarithms of the parameters, a share of them. -/
abbrev Ps (q : PosShare TreeShare) (f : Vec F S8388608 .f32) : sProp 𝕄 := (Memref.whole main_v3_scv).view.loc (thr d i) ↦{q} f

/-- The rows of chunk `c`. -/
abbrev rowsOf (f : Vec F S8388608 .f32) (c : Fin 32) : Vec F S8192 .f32 := (rowsSrc i c).view.read (Elt F) f

/-- Chunk `c`'s piece of the result, holding what `f` holds there. -/
abbrev Out (c : Fin 32) (f : Vec F S33554432 .f32) : sProp 𝕄 := (outDst i c).view.loc (thr d i) ↦[(outDst i c).view.set]{fullShare} f

/-- The pieces of the result after `n` chunks: the first `n` hold the value `G`, the others something. -/
def Outs (G : Vec F S33554432 .f32) (n : ℕ) : sProp 𝕄 :=
  bigSep (Finset.univ : Finset (Fin 32)) fun c => if c.val < n then Out d i c G else iprop(∃ f, Out d i c f)

/-- Before chunk `c` its piece holds something, and may be taken out; -/
theorem Outs_take (G : Vec F S33554432 .f32) (c : Fin 32) :
    (Outs d i G c.val : sProp 𝕄) = iprop((∃ f, Out d i c f)
      ∗ bigSep ((Finset.univ : Finset (Fin 32)).erase c) fun c' => if c'.val < c.val then Out d i c' G else iprop(∃ f, Out d i c' f)) := by
  unfold Outs
  rw [SparseCore.bigSep_erase' (Finset.mem_univ c), if_neg (lt_irrefl c.val)]

/-- after it, put back with the value, the pieces are those after one more chunk. -/
theorem Outs_put (G : Vec F S33554432 .f32) (c : Fin 32) :
    (Outs d i G (c.val + 1) : sProp 𝕄) = iprop(Out d i c G
      ∗ bigSep ((Finset.univ : Finset (Fin 32)).erase c) fun c' => if c'.val < c.val then Out d i c' G else iprop(∃ f, Out d i c' f)) := by
  unfold Outs
  rw [SparseCore.bigSep_erase' (Finset.mem_univ c), if_pos (Nat.lt_succ_self c.val)]
  congr 1
  refine bigSep_congr fun c' hc' => ?_
  have hne : c'.val ≠ c.val := fun e => (Finset.mem_erase.mp hc').1 (Fin.ext e)
  by_cases h : c'.val < c.val
  · rw [if_pos h, if_pos (by omega)]
  · rw [if_neg h, if_neg (by omega)]

/-- What a tile holds between its chunks. -/
def St (q : PosShare TreeShare) (dt : Vec F S65536 .i32) (vt : Vec F S1024 .i32) (Pv : Vec F S8388608 .f32) (G : Vec F S33554432 .f32)
    (O : CellTallies nD τ sig (HIx 1)) (W : Waits sig (HIx 1)) (n : ℕ) : sProp 𝕄 :=
  iprop(Idle d i O W ∗ Ps d i q Pv ∗ B0 d i dt ∗ B1 d i vt ∗ (∃ f, B2 d i f) ∗ (∃ f, B3 d i f) ∗ Outs d i G n)

/-- A piece copied out of the output holds the value wherever the output holds the chunk's. -/
theorem out_congr (c : Fin 32) (G fd : Vec F S33554432 .f32) (w : Vec F S32768 .f32) (hG : (outDst i c).view.read (Elt F) G = w) :
    (Out d i c ((outDst i c).view.write (Elt F) fd w Finset.univ) : sProp 𝕄) = Out d i c G := by
  subst hG
  refine pointsTo_congr fun x hx => ?_
  refine (congrFun (View.write_read_eq_piecewise (v := (outDst i c).view) (Val := Elt F) fd G Finset.univ) x).trans ?_
  exact Finset.piecewise_eq_of_mem _ _ _ hx

include EC in
/-- A chunk takes a tile from what it holds before the chunk to what it holds after it. -/
theorem wp_chunk {q : PosShare TreeShare} {dt : Vec F S65536 .i32} {vt : Vec F S1024 .i32} {Pv : Vec F S8388608 .f32} {G : Vec F S33554432 .f32}
    {O : CellTallies nD τ sig (HIx 1)} {W : Waits sig (HIx 1)} (hvt : ∀ x, (vt x).toNat < 64) (hdt : ∀ x, (dt x).toNat < 256) (c : Fin 32)
    (hG : (outDst i c).view.read (Elt F) G = chunkVal dt vt (rowsOf i Pv c) c.val)
    {K : Prog (TpuEff nD τ sig (Elt F) Λ₀ (procOf i)) Unit} {Q : Unit → sProp 𝕄} :
    (St d i q dt vt Pv G O W c.val : sProp 𝕄)
      ⊢ iprop((St d i q dt vt Pv G O W (c.val + 1)
            -∗ wp frame (wpE (defs₀ (F := F)) 𝒱₀ (thr d i) none) Set.univ K Q)
          -∗ wp frame (wpE (defs₀ (F := F)) 𝒱₀ (thr d i) none) Set.univ (chunk i c K) Q) := by
  have e1 : 32 * c.val + 16 ≤ 1024 := by omega
  have e2 : 32 * c.val + 16 + 16 ≤ 1024 := by omega
  unfold St chunk
  rw [Outs_take, Outs_put]
  iintro ⟨HI, HP, H0, H1, ⟨%f2, H2⟩, ⟨%f3, H3⟩, ⟨%fo, Ho⟩, Hrest⟩ Hk
  rw [Prog.bind_lift]
  ihave HP' := (pointsTo_split_subset (ℓ := (Memref.whole main_v3_scv).view.loc (thr d i)) (q := q) (f := Pv) (I := (rowsSrc i c).view.set) (S := Finset.univ) (Finset.subset_univ _)).1 $$ HP
  icases HP' with ⟨HPc, HPr⟩
  iapply (wp_copy EC d i (src := rowsSrc i c) (dst := Memref.whole cc1_scratch2) (n := 2 * c.val + 2) (Sd := Finset.univ) (fd := f2) (q := q) (fs := Pv)
    (by omega) (by decide) (Finset.subset_univ _)) $$ [HI HPc H2]
  · isplitl [HI]; · iexact HI
    isplitl [HPc]; · iexact HPc
    iexact H2
  iintro ⟨HI, HPc, H2⟩
  ihave HP := (pointsTo_split_subset (ℓ := (Memref.whole main_v3_scv).view.loc (thr d i)) (q := q) (f := Pv) (I := (rowsSrc i c).view.set) (S := Finset.univ) (Finset.subset_univ _)).2 $$ [HPc HPr]
  · isplitl [HPc]
    · iexact HPc
    · iexact HPr
  ihave H2 := (Entails.of_eq (congrArg (B2 d i) (View.write_whole_univ _ _ _))) $$ H2
  iapply (wp_group d i (dt := dt) (vt := vt) (ps := rowsOf i Pv c) (c := c.val) (n := 32 * c.val) (h := e1) (g := 0#32) (by decide) (by simp) hvt hdt) $$ [H0 H1 H2 H3]
  · isplitl [H1]; · iexact H1
    unfold inv
    isplitl [H0]; · iexact H0
    isplitl [H2]; · iexact H2
    iexists f3
    isplitr
    · ipureintro; exact Done.zero _ _ _ _ _
    · iexact H3
  iintro HL
  iapply (wp_group d i (dt := dt) (vt := vt) (ps := rowsOf i Pv c) (c := c.val) (n := 32 * c.val + 16) (h := e2) (g := 16#32) (by decide) rfl hvt hdt) $$ [HL]
  · iexact HL
  unfold inv
  iintro ⟨H1, H0, H2, %f, %hf, H3⟩
  obtain rfl : f = chunkVal dt vt (rowsOf i Pv c) c.val := Done.all hf
  rw [Prog.bind_lift]
  ihave H3 := (Entails.of_eq (congrArg (fun S => ((Memref.whole cc1_scratch3).view.loc (thr d i) ↦[S]{fullShare} chunkVal dt vt (rowsOf i Pv c) c.val : sProp 𝕄))
    (View.set_whole cc1_scratch3).symm)) $$ H3
  iapply (wp_copy EC d i (src := Memref.whole cc1_scratch3) (dst := outDst i c) (n := 2 * c.val + 3) (Sd := (outDst i c).view.set) (fd := fo) (q := fullShare)
    (fs := chunkVal dt vt (rowsOf i Pv c) c.val) (by omega) (by decide) subset_rfl) $$ [HI H3 Ho]
  · isplitl [HI]; · iexact HI
    isplitl [H3]; · iexact H3
    iexact Ho
  iintro ⟨HI, H3, Ho⟩
  ihave H3 := (Entails.of_eq (congrArg (fun S => ((Memref.whole cc1_scratch3).view.loc (thr d i) ↦[S]{fullShare} chunkVal dt vt (rowsOf i Pv c) c.val : sProp 𝕄))
    (View.set_whole cc1_scratch3))) $$ H3
  ihave Ho := (Entails.of_eq (out_congr d i c G fo ((Memref.whole cc1_scratch3).view.read (Elt F) (chunkVal dt vt (rowsOf i Pv c) c.val))
    (hG.trans (View.read_whole (Val := Elt F) cc1_scratch3 (chunkVal dt vt (rowsOf i Pv c) c.val)).symm))) $$ Ho
  iapply Hk
  isplitl [HI]; · iexact HI
  isplitl [HP]; · iexact HP
  isplitl [H0]; · iexact H0
  isplitl [H1]; · iexact H1
  isplitl [H2]; · iexists _; iexact H2
  isplitl [H3]; · iexists _; iexact H3
  isplitl [Ho]; · iexact Ho
  iexact Hrest

include EC in
/-- So do the `k` chunks from `n` on, up to the last. -/
theorem wp_chunksFrom {q : PosShare TreeShare} {dt : Vec F S65536 .i32} {vt : Vec F S1024 .i32} {Pv : Vec F S8388608 .f32} {G : Vec F S33554432 .f32}
    {O : CellTallies nD τ sig (HIx 1)} {W : Waits sig (HIx 1)} (hvt : ∀ x, (vt x).toNat < 64) (hdt : ∀ x, (dt x).toNat < 256)
    (hG : ∀ c, (outDst i c).view.read (Elt F) G = chunkVal dt vt (rowsOf i Pv c) c.val) :
    ∀ (k n : ℕ) (h : n + k = 32), (St d i q dt vt Pv G O W n : sProp 𝕄)
      ⊢ wp frame (wpE (defs₀ (F := F)) 𝒱₀ (thr d i) none) Set.univ (chunksFrom i k n h) fun _ => St d i q dt vt Pv G O W 32 := by
  intro k
  induction k with
  | zero =>
    intro n h
    obtain rfl : n = 32 := by omega
    unfold chunksFrom
    iintro H
    rw [wp_pure]
    imodintro
    iexact H
  | succ k ih =>
    intro n h
    have hn : n < 32 := by omega
    have h' : n + 1 + k = 32 := by omega
    unfold chunksFrom
    iintro H
    iapply (wp_chunk EC d i hvt hdt ⟨n, hn⟩ (hG _)) $$ H
    iintro H
    iapply (ih (n + 1) h')
    iexact H

/-! ## The tile -/

/-- The data table, a share of it. -/
abbrev Ds (q : PosShare TreeShare) (f : Vec F S65536 .i32) : sProp 𝕄 := (Memref.whole main_v2_scv).view.loc (thr d i) ↦{q} f
/-- All the patterns, a share of them. -/
abbrev Vs (q : PosShare TreeShare) (f : Vec F S32768 .i32) : sProp 𝕄 := (Memref.whole main_arg3_scv).view.loc (thr d i) ↦{q} f

/-- The tile's patterns. -/
abbrev vidsOf (f : Vec F S32768 .i32) : Vec F S1024 .i32 := (vidsSrc i).view.read (Elt F) f

include EC in
/-- The tile's program: it reads the three arrays and leaves the value in its pieces of the result. -/
theorem wp_prog {q2 q3 q : PosShare TreeShare} {dt : Vec F S65536 .i32} {va : Vec F S32768 .i32} {Pv : Vec F S8388608 .f32} {G : Vec F S33554432 .f32}
    {O : CellTallies nD τ sig (HIx 1)} {W : Waits sig (HIx 1)} (hvt : ∀ x, (vidsOf i va x).toNat < 64) (hdt : ∀ x, (dt x).toNat < 256)
    (hG : ∀ c, (outDst i c).view.read (Elt F) G = chunkVal dt (vidsOf i va) (rowsOf i Pv c) c.val) :
    iprop(Idle d i O W ∗ Ds d i q2 dt ∗ Vs d i q3 va ∗ Ps d i q Pv ∗ (∃ f, B0 d i f) ∗ (∃ f, B1 d i f) ∗ (∃ f, B2 d i f) ∗ (∃ f, B3 d i f) ∗ Outs d i G 0)
      ⊢ wp frame (wpE (defs₀ (F := F)) 𝒱₀ (thr d i) none) Set.univ (prog i) fun _ =>
        (iprop(Idle d i O W ∗ Ds d i q2 dt ∗ Vs d i q3 va ∗ Ps d i q Pv ∗ (∃ f, B0 d i f) ∗ (∃ f, B1 d i f) ∗ (∃ f, B2 d i f) ∗ (∃ f, B3 d i f)
          ∗ Outs d i G 32) : sProp 𝕄) := by
  unfold prog
  iintro ⟨HI, HD, HV, HP, ⟨%f0, H0⟩, ⟨%f1, H1⟩, H2, H3, HO⟩
  rw [Prog.bind_lift]
  ihave HD := (Entails.of_eq (congrArg (fun S => ((Memref.whole main_v2_scv).view.loc (thr d i) ↦[S]{q2} dt : sProp 𝕄))
    (View.set_whole main_v2_scv).symm)) $$ HD
  iapply (wp_copy EC d i (src := Memref.whole main_v2_scv) (dst := Memref.whole cc1_scratch0) (n := 0) (Sd := Finset.univ) (fd := f0) (q := q2) (fs := dt)
    (by omega) (by decide) (Finset.subset_univ _)) $$ [HI HD H0]
  · isplitl [HI]; · iexact HI
    isplitl [HD]; · iexact HD
    iexact H0
  iintro ⟨HI, HD, H0⟩
  ihave HD := (Entails.of_eq (congrArg (fun S => ((Memref.whole main_v2_scv).view.loc (thr d i) ↦[S]{q2} dt : sProp 𝕄))
    (View.set_whole main_v2_scv))) $$ HD
  ihave H0 := (Entails.of_eq (congrArg (B0 d i) (View.write_whole_univ _ _ _))) $$ H0
  rw [Prog.bind_lift]
  ihave HV' := (pointsTo_split_subset (ℓ := (Memref.whole main_arg3_scv).view.loc (thr d i)) (q := q3) (f := va) (I := (vidsSrc i).view.set) (S := Finset.univ) (Finset.subset_univ _)).1 $$ HV
  icases HV' with ⟨HVc, HVr⟩
  iapply (wp_copy EC d i (src := vidsSrc i) (dst := Memref.whole cc1_scratch1) (n := 1) (Sd := Finset.univ) (fd := f1) (q := q3) (fs := va)
    (by omega) (by decide) (Finset.subset_univ _)) $$ [HI HVc H1]
  · isplitl [HI]; · iexact HI
    isplitl [HVc]; · iexact HVc
    iexact H1
  iintro ⟨HI, HVc, H1⟩
  ihave HV := (pointsTo_split_subset (ℓ := (Memref.whole main_arg3_scv).view.loc (thr d i)) (q := q3) (f := va) (I := (vidsSrc i).view.set) (S := Finset.univ) (Finset.subset_univ _)).2 $$ [HVc HVr]
  · isplitl [HVc]
    · iexact HVc
    · iexact HVr
  ihave H1 := (Entails.of_eq (congrArg (B1 d i) (View.write_whole_univ _ _ _))) $$ H1
  iapply (wp_wand_r frame (wpE (defs₀ (F := F)) 𝒱₀ (thr d i) none) Set.univ)
  isplitl [HI HP H0 H1 H2 H3 HO]
  · iapply (wp_chunksFrom EC d i (q := q) (dt := dt) (vt := vidsOf i va) (Pv := Pv) (G := G) (O := O) (W := W) hvt hdt hG 32 0 rfl)
    unfold St
    isplitl [HI]; · iexact HI
    isplitl [HP]; · iexact HP
    isplitl [H0]; · iexact H0
    isplitl [H1]; · iexact H1
    isplitl [H2]; · iexact H2
    isplitl [H3]; · iexact H3
    iexact HO
  · unfold St
    iintro %_ ⟨HI, HP, H0, H1, H2, H3, HO⟩
    isplitl [HI]; · iexact HI
    isplitl [HD]; · iexact HD
    isplitl [HV]; · iexact HV
    isplitl [HP]; · iexact HP
    isplitl [H0]; · iexists _; iexact H0
    isplitl [H1]; · iexists _; iexact H1
    isplitl [H2]; · iexact H2
    isplitl [H3]; · iexact H3
    iexact HO

end Cert.KernelIdeal.Tile
-- ==== Proof.IdealTileOut.lean ====
/-
  The result in one piece: the value of the whole result, that each chunk's piece of it is the chunk's value, and that the
  pieces of all the tiles are disjoint and cover it.
-/
module

public import proofs.«01_k».proof.Proof.IdealTileBody

@[expose] public section

set_option maxRecDepth 65536

noncomputable section

namespace Cert.KernelIdeal.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig (HIx 1) (Elt F) ℕ U ℕ

/-- Position `n` in the nodes' variables, -/
abbrev pAll (n : ℕ) : S32768.Idx := pos S32768 (one_pos (by decide)) n
/-- and in the parameters. -/
abbrev pPar (n : ℕ) : S8388608.Idx := pos S8388608 (one_pos (by decide)) n

/-- The value of the result at its flat position `j`: node `j / 1024`, column `j % 1024`; the node's parameter at the data value
    of its pattern and the column. -/
def whole (dt : Vec F S65536 .i32) (va : Vec F S32768 .i32) (Pv : Vec F S8388608 .f32) : Vec F S33554432 .f32 := fun j =>
  Pv (pPar ((j 0).val / 1024 * 256 + (dt (pData ((va (pAll ((j 0).val / 1024))).toNat * 1024 + (j 0).val % 1024))).toNat))

/-- The grid point of SparseCore `c` and subcore `s`. -/
def coordsV (c : Fin (grid1.bound 0)) (s : Fin (grid1.bound 1)) : grid1.Coords :=
  fun | 0 => c | 1 => s | ⟨_ + 2, h⟩ => absurd h (Nat.not_lt.2 (Nat.le_add_left _ _))

section Geometry
variable (i : grid1.Coords) (c : Fin 32)

/-- Where chunk `c`'s piece of the result begins. -/
theorem off3_val : k1_off3 i (BitVec.ofNat 32 (32 * c.val)) 0 = 2097152 * (i 1).val + 1048576 * (i 0).val + 32768 * c.val := by
  rw [k1_off3_eq]; rfl
/-- Where chunk `c`'s rows of the parameters begin. -/
theorem off2_val : k1_off2 i (BitVec.ofNat 32 (32 * c.val)) 0 = 524288 * (i 1).val + 262144 * (i 0).val + 8192 * c.val := by
  rw [k1_off2_eq]; rfl
/-- Where the tile's patterns begin. -/
theorem off1_val : k1_off1 i 0 = 2048 * (i 1).val + 1024 * (i 0).val := by
  rw [k1_off1_eq]; rfl

/-- Where position `x` of chunk `c`'s output lies in the result, -/
def outAt (x : S32768.Idx) : S33554432.Idx := (outDst i c).view.emb x
/-- of its rows, in the parameters, -/
def rowsAt (x : S8192.Idx) : S8388608.Idx := (rowsSrc i c).view.emb x
/-- of the tile's patterns, in all the patterns. -/
def vidsAt (x : S1024.Idx) : S32768.Idx := (vidsSrc i).view.emb x

/-- Where that is in the result, -/
theorem out_emb (x : S32768.Idx) : ((outAt i c x) 0).val = 2097152 * (i 1).val + 1048576 * (i 0).val + 32768 * c.val + (x 0).val := by
  rw [← off3_val]
  show k1_off3 i _ 0 + 1 * (x 0).val = _
  rw [Nat.one_mul]
/-- in the parameters, -/
theorem rows_emb (x : S8192.Idx) : ((rowsAt i c x) 0).val = 524288 * (i 1).val + 262144 * (i 0).val + 8192 * c.val + (x 0).val := by
  rw [← off2_val]
  show k1_off2 i _ 0 + 1 * (x 0).val = _
  rw [Nat.one_mul]
/-- in all the patterns, by the tile's coordinates. -/
theorem vids_emb (x : S1024.Idx) : ((vidsAt i x) 0).val = 2048 * (i 1).val + 1024 * (i 0).val + (x 0).val := by
  rw [← off1_val]
  show k1_off1 i 0 + 1 * (x 0).val = _
  rw [Nat.one_mul]

/-- Each chunk's piece of the result's value is the chunk's value. -/
theorem whole_read {dt : Vec F S65536 .i32} {va : Vec F S32768 .i32} {Pv : Vec F S8388608 .f32} (hdt : ∀ x, (dt x).toNat < 256) :
    (outDst i c).view.read (Elt F) (whole dt va Pv) = chunkVal dt (vidsOf i va) (rowsOf i Pv c) c.val := by
  have h0 : (i 0).val < 2 := (i 0).isLt
  have h1 : (i 1).val < 16 := (i 1).isLt
  have hc : c.val < 32 := c.isLt
  funext x
  have hx : (x 0).val < 32768 := (x 0).isLt
  show whole dt va Pv (outAt i c x) = chunkVal dt (vidsOf i va) (rowsOf i Pv c) c.val x
  unfold whole chunkVal
  rw [out_emb]
  have hv : va (pAll ((2097152 * (i 1).val + 1048576 * (i 0).val + 32768 * c.val + (x 0).val) / 1024))
      = vidsOf i va (pVids (32 * c.val + (x 0).val / 1024)) := by
    show va _ = va (vidsAt i _)
    congr 1
    apply pos_of_val
    intro a
    obtain rfl : a = 0 := Subsingleton.elim _ _
    rw [vids_emb]
    show _ + (32 * c.val + (x 0).val / 1024) % 1024 = _
    omega
  rw [hv, show (2097152 * (i 1).val + 1048576 * (i 0).val + 32768 * c.val + (x 0).val) % 1024 = (x 0).val % 1024 by omega]
  have hd := hdt (pData ((vidsOf i va (pVids (32 * c.val + (x 0).val / 1024))).toNat * 1024 + (x 0).val % 1024))
  revert hd
  generalize (dt (pData ((vidsOf i va (pVids (32 * c.val + (x 0).val / 1024))).toNat * 1024 + (x 0).val % 1024))).toNat = n
  intro hd
  show Pv _ = Pv (rowsAt i c _)
  congr 1
  apply pos_of_val
  intro a
  obtain rfl : a = 0 := Subsingleton.elim _ _
  rw [rows_emb]
  show _ + ((x 0).val / 1024 * 256 + n) % 8192 = _
  omega

/-- A position of the result lies in chunk `c`'s piece when its block of 32768 is the chunk's. -/
theorem mem_out (j : S33554432.Idx) : j ∈ (outDst i c).view.set ↔ (j 0).val / 32768 = 64 * (i 1).val + 32 * (i 0).val + c.val := by
  have e : (outDst i c).view.set = (Rect.unit (s := S33554432) (k1_off3 i (BitVec.ofNat 32 (32 * c.val))) S32768.size (k1_off3_inb i c)).set :=
    View.set_slice_whole _ _
  refine (Finset.ext_iff.mp e j).trans ?_
  refine Rect.mem_set_unit.trans ?_
  have hz := off3_val i c
  constructor
  · intro h
    have := h 0
    rw [hz] at this
    have h2 : S32768.size 0 = 32768 := rfl
    rw [h2] at this
    omega
  · intro h a
    obtain rfl : a = 0 := Subsingleton.elim _ _
    rw [hz]
    have h2 : S32768.size 0 = 32768 := rfl
    rw [h2]
    omega

end Geometry

/-- A chunk of a tile, among all of them. -/
abbrev Piece := Fin (grid1.bound 0) × Fin (grid1.bound 1) × Fin 32

/-- The positions of a chunk's piece. -/
abbrev pieceSet (p : Piece) : Finset S33554432.Idx := (outDst (coordsV p.1 p.2.1) p.2.2).view.set

/-- A position is in a chunk's piece exactly where its block of 32768 is the chunk's. -/
theorem mem_piece (p : Piece) (j : S33554432.Idx) : j ∈ pieceSet p ↔ (j 0).val / 32768 = 64 * p.2.1.val + 32 * p.1.val + p.2.2.val :=
  mem_out _ _ j

/-- Different chunks' pieces are disjoint. -/
theorem pieces_disjoint : ∀ p ∈ (Finset.univ : Finset Piece), ∀ p' ∈ (Finset.univ : Finset Piece), p ≠ p' → Disjoint (pieceSet p) (pieceSet p') := by
  intro p _ p' _ hne
  refine Finset.disjoint_left.mpr fun j hj hj' => hne ?_
  rw [mem_piece] at hj hj'
  have a0 : p.1.val < 2 := p.1.isLt
  have a1 : p'.1.val < 2 := p'.1.isLt
  have b0 := p.2.2.isLt
  have b1 := p'.2.2.isLt
  refine Prod.ext (Fin.ext ?_) (Prod.ext (Fin.ext ?_) (Fin.ext ?_)) <;> omega

/-- The chunks' pieces cover the result. -/
theorem pieces_cover : (Finset.univ : Finset Piece).biUnion pieceSet = Finset.univ := by
  refine Finset.eq_univ_iff_forall.mpr fun j => Finset.mem_biUnion.mpr ?_
  have hj : (j 0).val < 33554432 := (j 0).isLt
  refine ⟨(⟨(j 0).val / 1048576 % 2, Nat.mod_lt _ (by decide)⟩, ⟨(j 0).val / 2097152, by show _ < 16; omega⟩, ⟨(j 0).val / 32768 % 32, Nat.mod_lt _ (by decide)⟩),
    Finset.mem_univ _, ?_⟩
  rw [mem_piece]
  show _ = 64 * ((j 0).val / 2097152) + 32 * ((j 0).val / 1048576 % 2) + (j 0).val / 32768 % 32
  omega

/-! ## Dealing the arrays to the tiles -/

variable (d : Dev nD)

/-- The share of a read array that subcore `s` of SparseCore `c` is dealt. -/
def share (c : Fin (grid1.bound 0)) (s : Fin (grid1.bound 1)) : PosShare TreeShare :=
  Transfers.dealOf (Transfers.dealOf fullShare Finset.univ c) Finset.univ s

/-- A whole array is its shares, dealt to the tiles. -/
theorem deal_share {ℓ : Loc nD τ sig} (f : Buf (Elt F) ℓ) :
    (ℓ ↦{fullShare} f : sProp 𝕄) = bigSep Finset.univ fun c : Fin (grid1.bound 0) => bigSep Finset.univ fun s : Fin (grid1.bound 1) => ℓ ↦{share c s} f := by
  rw [Transfers.pointsTo_deal (Finset.univ : Finset (Fin (grid1.bound 0))) ⟨(0 : Fin 2), Finset.mem_univ _⟩ fullShare]
  refine bigSep_congr fun c _ => ?_
  rw [Transfers.pointsTo_deal (Finset.univ : Finset (Fin (grid1.bound 1))) ⟨(0 : Fin 16), Finset.mem_univ _⟩]
  rfl

/-- The whole result is the chunks' pieces, tile by tile. -/
theorem deal_out (f : Vec F S33554432 .f32) :
    ((SparseCore.T d).loc main_v4 ↦{fullShare} f : sProp 𝕄)
      = bigSep Finset.univ fun c : Fin (grid1.bound 0) => bigSep Finset.univ fun s : Fin (grid1.bound 1) =>
          bigSep Finset.univ fun k : Fin 32 => Out d (coordsV c s) k f := by
  have e := pointsTo_biUnion (Finset.univ : Finset Piece) (τ := τ) (ℓ := (SparseCore.T d).loc main_v4) (q := fullShare) (f := f) (Val := Elt F) (U := U) (Name := ℕ) (Lvl := ℕ) (Ix := HIx 1) pieceSet pieces_disjoint
  rw [pieces_cover] at e
  refine e.trans ?_
  rw [bigSep_univ_prod]
  refine bigSep_congr fun c _ => ?_
  rw [bigSep_univ_prod]
  rfl

/-- The pieces before the first chunk: something in each. -/
theorem Outs_zero (i : grid1.Coords) (G : Vec F S33554432 .f32) :
    (Outs d i G 0 : sProp 𝕄) = bigSep Finset.univ fun k : Fin 32 => iprop(∃ f, Out d i k f) :=
  bigSep_congr fun k _ => if_neg (Nat.not_lt_zero _)
/-- The pieces after the last chunk: the value in each. -/
theorem Outs_all (i : grid1.Coords) (G : Vec F S33554432 .f32) :
    (Outs d i G 32 : sProp 𝕄) = bigSep Finset.univ fun k : Fin 32 => Out d i k G :=
  bigSep_congr fun k _ => if_pos k.isLt

/-- What a tile is dealt: a share of each array it reads, and its pieces of the result after `n` chunks. -/
def Deal (dt : Vec F S65536 .i32) (va : Vec F S32768 .i32) (Pv : Vec F S8388608 .f32) (n : ℕ) (c : Fin (grid1.bound 0)) (s : Fin (grid1.bound 1)) : sProp 𝕄 :=
  iprop(Ds d (coordsV c s) (share c s) dt ∗ Vs d (coordsV c s) (share c s) va ∗ Ps d (coordsV c s) (share c s) Pv
    ∗ Outs d (coordsV c s) (whole dt va Pv) n)

/-- The four arrays, dealt to the tiles before they run. -/
theorem deal_in (dt : Vec F S65536 .i32) (va : Vec F S32768 .i32) (Pv : Vec F S8388608 .f32) (f : Vec F S33554432 .f32) :
    iprop(((SparseCore.T d).loc main_v2 ↦{fullShare} dt) ∗ ((SparseCore.T d).loc main_arg3 ↦{fullShare} va) ∗ ((SparseCore.T d).loc main_v3 ↦{fullShare} Pv) ∗ (SparseCore.T d).loc main_v4 ↦{fullShare} f)
      ⊢ (bigSep Finset.univ fun c => bigSep Finset.univ fun s => Deal d dt va Pv 0 c s : sProp 𝕄) := by
  rw [deal_out, deal_share (ℓ := (SparseCore.T d).loc main_v2), deal_share (ℓ := (SparseCore.T d).loc main_arg3), deal_share (ℓ := (SparseCore.T d).loc main_v3),
    ← bigSep_sep', ← bigSep_sep', ← bigSep_sep']
  refine bigSep_mono fun c _ => ?_
  rw [← bigSep_sep', ← bigSep_sep', ← bigSep_sep']
  refine bigSep_mono fun s _ => ?_
  unfold Deal
  rw [Outs_zero]
  have hm : (bigSep Finset.univ fun k : Fin 32 => Out d (coordsV c s) k f : sProp 𝕄) ⊢ bigSep Finset.univ fun k : Fin 32 => iprop(∃ f, Out d (coordsV c s) k f) :=
    bigSep_mono fun k _ => exists_intro (Φ := fun f => Out d (coordsV c s) k f) f
  exact sep_mono_right (sep_mono_right (sep_mono_right hm))

/-- The four arrays, gathered from the tiles after they ran: the result holds its value. -/
theorem deal_back (dt : Vec F S65536 .i32) (va : Vec F S32768 .i32) (Pv : Vec F S8388608 .f32) :
    (bigSep Finset.univ fun c => bigSep Finset.univ fun s => Deal d dt va Pv 32 c s : sProp 𝕄)
      ⊢ iprop(((SparseCore.T d).loc main_v2 ↦{fullShare} dt) ∗ ((SparseCore.T d).loc main_arg3 ↦{fullShare} va) ∗ ((SparseCore.T d).loc main_v3 ↦{fullShare} Pv)
          ∗ (SparseCore.T d).loc main_v4 ↦{fullShare} whole dt va Pv) := by
  rw [deal_out, deal_share (ℓ := (SparseCore.T d).loc main_v2), deal_share (ℓ := (SparseCore.T d).loc main_arg3), deal_share (ℓ := (SparseCore.T d).loc main_v3),
    ← bigSep_sep', ← bigSep_sep', ← bigSep_sep']
  refine bigSep_mono fun c _ => ?_
  rw [← bigSep_sep', ← bigSep_sep', ← bigSep_sep']
  refine bigSep_mono fun s _ => ?_
  unfold Deal
  rw [Outs_all]
  exact Entails.refl _

end Cert.KernelIdeal.Tile
-- ==== Proof.IdealTilePrinted.lean ====
/-
  The printed tile body is the tile's program chunk by chunk (TileProg.lean).
-/
module

public import proofs.«01_k».proof.Proof.IdealTileProg
public import proofs.«01_k».proof.Proof.Gen.KernelIdeal.Skeleton

@[expose] public section

set_option maxRecDepth 1000000

noncomputable section

namespace Cert.KernelIdeal.Tile

open Cert.KernelIdeal Cert.KernelIdeal.Gen
open Idealize.ShloMosaic
open Idealize.SL Idealize.SL.Sem

variable {F : FTy → Type} [FloatOps F]

set_option maxHeartbeats 0 in
/-- The printed body on the arrays, the scratch and the cells it is called with, is the tile's program. -/
theorem printed_eq (i : grid1.Coords) :
    cc1__sc_gather (F := F) i (Memref.whole main_v2_scv) (Memref.isWhole_whole _) (Memref.whole main_arg3_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 = prog i := by
  rw [cc1__sc_gather_eq_skeleton]
  simp only [cc1__sc_gather_skel, k1_part36_eq_skeleton, k1_part36_skel, k1_part35_eq_skeleton, k1_part35_skel, k1_part34_eq_skeleton, k1_part34_skel, k1_part33_eq_skeleton, k1_part33_skel, k1_part32_eq_skeleton, k1_part32_skel, k1_part31_eq_skeleton, k1_part31_skel, k1_part30_eq_skeleton, k1_part30_skel, k1_part29_eq_skeleton, k1_part29_skel, k1_part28_eq_skeleton, k1_part28_skel, k1_part27_eq_skeleton, k1_part27_skel, k1_part26_eq_skeleton, k1_part26_skel, k1_part25_eq_skeleton, k1_part25_skel, k1_part24_eq_skeleton, k1_part24_skel, k1_part23_eq_skeleton, k1_part23_skel, k1_part22_eq_skeleton, k1_part22_skel, k1_part21_eq_skeleton, k1_part21_skel, k1_part20_eq_skeleton, k1_part20_skel, k1_part19_eq_skeleton, k1_part19_skel, k1_part18_eq_skeleton, k1_part18_skel, k1_part17_eq_skeleton, k1_part17_skel, k1_part16_eq_skeleton, k1_part16_skel, k1_part15_eq_skeleton, k1_part15_skel, k1_part14_eq_skeleton, k1_part14_skel, k1_part13_eq_skeleton, k1_part13_skel, k1_part12_eq_skeleton, k1_part12_skel, k1_part11_eq_skeleton, k1_part11_skel, k1_part10_eq_skeleton, k1_part10_skel, k1_part9_eq_skeleton, k1_part9_skel, k1_part8_eq_skeleton, k1_part8_skel, k1_part7_eq_skeleton, k1_part7_skel, k1_part6_eq_skeleton, k1_part6_skel, k1_part5_eq_skeleton, k1_part5_skel, k1_part4_eq_skeleton, k1_part4_skel, k1_part3_eq_skeleton, k1_part3_skel, k1_part2_eq_skeleton, k1_part2_skel, k1_part1_eq_skeleton, k1_part1_skel, bind_assoc, pure_bind]
  rfl

end Cert.KernelIdeal.Tile
-- ==== Proof.IdealLogRegion.lean ====
/-
  The logarithm's pipeline: sixteen blocks of 2048 rows go through the vector memory, and each comes back as its logarithms.
  The region is stated for a TensorCore that still owes the start signals of the SparseCore call that follows it.
-/
module

public import proofs.«01_k».proof.Proof.IdealTileBody
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value
public import Idealize.ShloMosaic.Lib.Pipeline.ValueKit.Geometry
public import Idealize.ShloMosaic.Lib.VecWindow

@[expose] public section

set_option maxRecDepth 65536

noncomputable section

namespace Cert.KernelIdeal.Tile

open Cert.KernelIdeal Cert.KernelIdeal.Gen
open Idealize.ShloMosaic Idealize.ShloMosaic.TcCoe Idealize.ShloMosaic.Tactic
open Idealize.ShloMosaic.Rounds
open Idealize.ShloMosaic.SparseCore (T)
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig (HIx 1) (Elt F) ℕ U ℕ

/-! ## The body -/

/-- A whole staging buffer held at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- What the body leaves in the result's staging buffer, with the proof that from both staging buffers held whole it
    runs to its return, handing back the operand's as it was and the result's at that witness. -/
noncomputable def logRun (c : Dev nD) (i : grid0.Coords) (M0 : Memref sig .tc .vmem S2048x256 .f32) (h0 : M0.IsWhole)
    (M1 : Memref sig .tc .vmem S2048x256 .f32) (h1 : M1.IsWhole) (f0 : Buf (Elt F) (M0.view.loc (c : Thread nD τ))) :
    { W : Buf (Elt F) (M1.view.loc (c : Thread nD τ)) // ∀ (f1 : Buf (Elt F) (M1.view.loc (c : Thread nD τ))) (E : Set ℕ) (Q : PUnit → sProp 𝕄),
        iprop(pt c M0 f0 ∗ pt c M1 f1 ∗ (iprop(pt c M0 f0 ∗ pt c M1 W) -∗ Q ⟨⟩))
          ⊢ wp frame (wpE (defs₀ (F := F)) Variants.none c none) E (cc0__log_body i M0 h0 M1 h1) Q } := by
  refine ⟨?_, fun f1 E Q => ?run⟩
  case run =>
    unfold cc0__log_body
    iintro ⟨H0, H1, Hk⟩
    sl_exec!
    sl_step
    iapply Hk
    isplitl [H0]; · iexact H0
    iexact H1

/-- What the body leaves reads as the logarithms of what it found. -/
theorem logRun_read (c : Dev nD) (i : grid0.Coords) (M0 : Memref sig .tc .vmem S2048x256 .f32) (h0 : M0.IsWhole)
    (M1 : Memref sig .tc .vmem S2048x256 .f32) (h1 : M1.IsWhole) (f0 : Buf (Elt F) (M0.view.loc (c : Thread nD τ))) :
    M1.view.read (Elt F) (logRun (F := F) (U := U) c i M0 h0 M1 h1 f0).1 = log (M0.view.read (Elt F) f0) := by
  unfold logRun
  dsimp only
  unfold logRun.sl.H1_1 logRun.sl.v2 logRun.sl.v1
  refine (View.read_writes_full (Val := Elt F) M1.view _ inb_S2048x256_S2048x256_0_0 _ []).trans ?_
  exact congrArg log ((shapeCast_self _ _).trans (View.readAt_full (Val := Elt F) M0.view f0 inb_S2048x256_S2048x256_0_0))

/-! ## The proof data -/

variable (V : (c : Dev nD) → (b : Ref sig .tc) → Buf (Elt F) ((c : Thread nD τ).loc b))

/-- The operand's block at point `t`. -/
abbrev stg (c : Dev nD) (t : Fin cfg0.N) : Vec F S2048x256 .f32 := ((cfg0.win 0).blk t).view.read (Elt F) (V c main_v0)

/-- The whole result: the logarithms of the operand, element by element. -/
abbrev logs (c : Dev nD) : Vec F S32768x256 .f32 := log (s := S32768x256) (φ := .f32) (V c main_v0)

/-- The region's proof data: the operand's block stays, the result's block is its logarithms; the core goes on owing what
    it owes before the SparseCore call, and what its waits have recorded stays at the bottom level. -/
def dat (c : Dev nD) : Dat τ (Elt F) (HIx 1) ℕ U ℕ cfg0 c where
  A w := V c (Pipeline.arrRef spec0 w)
  after w t := match w with
    | ⟨0, _⟩ => stg V c t
    | ⟨1, _⟩ => log (stg V c t)
  Φ _ := Pipeline.scopedRest (Ix := HIx 1) (Name := ℕ) (U := U) (Lvl := ℕ) (Val := Elt F) spec0 c
  q _ := fullShare
  owed _ := (sc (F := F)).Otc c 0
  recorded _ := {p | (sc (F := F)).lev (T c, p.1) p.2 ≤ 0}

/-- No pipeline has a prefetched table. -/
def adm : (p : Fin 1) → (pcfgs (F := F) p).Adm := fun p => (cfgs p).toPCfg_adm

/-- The proof data of the one pipeline. -/
def pdats : (p : Fin 1) → (c : Dev nD) → Dat τ (Elt F) (HIx 1) ℕ U ℕ (Pipeline.pin (pcfgs (F := F)) adm p) c
  | ⟨0, _⟩ => fun c => dat V c

/-- The operand's staging buffer holds its block whenever the body runs. -/
theorem before_in (c : Dev nD) (t : Fin cfg0.N) (d : Vec F S2048x256 .f32) : (dat (U := U) V c).before 0 t d = stg V c t := by
  rw [Dat.before_fetched _ 0 t (fetch0_0 t)]; rfl

/-- A whole memref owned at contents is its buffer held whole at contents that read so. -/
theorem owns_whole (c : Dev nD) (M : Memref sig .tc .vmem S2048x256 .f32) (h : M.IsWhole) (x : Vec F S2048x256 .f32) :
    (owns (c : Thread nD τ) M fullShare x : sProp 𝕄) = iprop(∃ f, ⌜M.view.read (Elt F) f = x⌝ ∗ pt c M f) := by
  unfold owns; rw [h.set_eq_univ]

/-- The body at every point: the two staging buffers are taken, the body runs, and they are put back. -/
theorem body_obligation (c : Dev nD) : BodyObligation (dat (U := U) V c) (defs₀ (F := F)) 𝒱₀ none Set.univ := fun t => by
  rw [bigSep_W0, bigSep_W0]
  rw [show (dat (U := U) V c).Φ t.castSucc = Pipeline.scopedRest (Ix := HIx 1) (Name := ℕ) (U := U) (Lvl := ℕ) (Val := Elt F) spec0 c from rfl,
    show (dat (U := U) V c).Φ t.succ = Pipeline.scopedRest (Ix := HIx 1) (Name := ℕ) (U := U) (Lvl := ℕ) (Val := Elt F) spec0 c from rfl,
    show (dat (U := U) V c).owesAt none t.succ = (dat (U := U) V c).owesAt none t.castSucc from rfl]
  iintro ⟨HΦ, Howes, ⟨%d0, H0⟩, ⟨%d1, H1⟩⟩
  ihave H0 := (Entails.of_eq (owns_whole c (st0_0 t) (hstage0_0 ((cfg0.slots t 0).cast nbuf0_0)) _)) $$ H0
  ihave H1 := (Entails.of_eq (owns_whole c (st0_1 t) (hstage0_1 ((cfg0.slots t 1).cast nbuf0_1)) _)) $$ H1
  icases H0 with ⟨%f0, %hf0, H0⟩
  icases H1 with ⟨%f1, -, H1⟩
  rw [before_in] at hf0
  have hr := logRun_read (F := F) (U := U) c (grid0.coords t) (st0_0 t) (hstage0_0 ((cfg0.slots t 0).cast nbuf0_0)) (st0_1 t) (hstage0_1 ((cfg0.slots t 1).cast nbuf0_1)) f0
  iapply ((logRun (F := F) (U := U) c (grid0.coords t) (st0_0 t) (hstage0_0 ((cfg0.slots t 0).cast nbuf0_0)) (st0_1 t) (hstage0_1 ((cfg0.slots t 1).cast nbuf0_1)) f0).2 f1 Set.univ _)
  isplitl [H0]; · iexact H0
  isplitl [H1]; · iexact H1
  iintro ⟨H0, H1⟩
  isplitl [HΦ]; · iexact HΦ
  isplitl [Howes]; · iexact Howes
  isplitl [H0]
  · iapply (Entails.of_eq (owns_whole c (st0_0 t) (hstage0_0 ((cfg0.slots t 0).cast nbuf0_0)) _).symm)
    iexists _; isplitr; swap; (· iexact H0); ipureintro; exact hf0
  · iapply (Entails.of_eq (owns_whole c (st0_1 t) (hstage0_1 ((cfg0.slots t 1).cast nbuf0_1)) _).symm)
    iexists _; isplitr; swap; (· iexact H1); ipureintro; rw [hr, hf0]; rfl

/-- The result's array after the region: the logarithms of the operand. -/
theorem arrAt_out (c : Dev nD) : (dat (U := U) V c).arrAt 1 cfg0.N = logs V c := by
  refine Dat.arrAt_eq_of_cover _ 1 _ (fun t _ => ?_) fun i => ?_
  · rfl
  · exact Window.Covers.cover (w := win0_1) (by decide +kernel) (arr_whole0 1) i

/-! ## The region -/

section Reg

variable (Vp : (c : Dev nD) → (b : Ref sig .tc) → Buf (Elt F) ((c : Thread nD τ).loc b))

set_option backward.isDefEq.respectTransparency.types false in
/-- The region over the thread state "every unscoped buffer at `V c`, what the core owes before the SparseCore call, its
    recorded waits at the bottom level": it leaves the buffers at `Vp`, which is `V` but for the result, the logarithms. -/
def reg (hVp_out : ∀ c, Vp c main_v1 = logs V c) (hVp_ne : ∀ c (b : Ref sig .tc), b ≠ main_v1 → Vp c b = V c b) :
    Pipeline.RegionSeg (pcfgs (F := F)) adm (pdats (U := U) V) none defs₀ 𝒱₀ ((sc (F := F)).L (N := 1)) ((sc (F := F)).lev (N := 1)) 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut (Pipeline.pin (pcfgs (F := F)) adm) (pdats (U := U) V) none 0 c 0 ((sc (F := F)).Otc c 0) (fun _ => rfl)
    (fun _ _ => Finset.mem_univ _) (fun _ _ => le_rfl)
    (fun g i h => ⟨Finset.mem_univ _, lt_of_lt_of_le (Nat.succ_pos _) ((sc (F := F)).lev_of_Otc_pos h)⟩)
  pre c := iprop(unscopedBufs c (V c) ∗ ∃ W, ⌜(sc (F := F)).WBelow (T c) W 0⌝ ∗ owes (c : Thread nD τ) ((sc (F := F)).Otc c 0) W)
  post c := iprop(unscopedBufs c (Vp c) ∗ ∃ W, ⌜(sc (F := F)).WBelow (T c) W 0⌝ ∗ owes (c : Thread nD τ) ((sc (F := F)).Otc c 0) W)
  X _ := BI.emp
  Y _ := BI.emp
  Z c := Pipeline.unscopedRest (Ix := HIx 1) (Name := ℕ) (U := U) (Lvl := ℕ) spec0 c (V c)
  hentry c := by
    rw [Pipeline.ownSems0_none]
    have hsplit := Pipeline.arrays_of_unscopedBufs (p := 0) (pcfgs (F := F)) adm (pdats (U := U) V) launch0.win launch0.arr_whole c
      ((pdats (U := U) V 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats (U := U) V 0 c).Φ 0 = Pipeline.scopedRest (Ix := HIx 1) (Name := ℕ) (U := U) (Lvl := ℕ) (Val := Elt F) spec0 c from rfl]
    iintro ⟨-, -, Hr⟩; iexact Hr
  hout c := by
    rw [Pipeline.ownSems0_none, show (pdats (U := U) V 0 c).Φ (Fin.last _) = Pipeline.scopedRest (Ix := HIx 1) (Name := ℕ) (U := U) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := U) (Lvl := ℕ) launch0.win launch0.arr_whole c
      (pdats (U := U) V) ((pdats (U := U) V 0 c).share_full fun _ => rfl) (V c) (Vp c) ((pdats (U := U) V 0 c).arrAt · cfg0.N)
      (fun w => by
        fin_cases w
        · exact ((pdats (U := U) V 0 c).arrAt_in 0 rfl _).trans (hVp_ne c main_v0 (by decide)).symm
        · exact (arrAt_out V c).trans (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact le_rfl
    iexact HO

end Reg

end Cert.KernelIdeal.Tile

end
-- ==== Proof.IdealLaunch.lean ====
/-
  The launch: the user algebra, what the SparseCore call hands to each tile and back, and the tile's obligation.
-/
module

public import proofs.«01_k».proof.Proof.IdealTileOut
public import proofs.«01_k».proof.Proof.IdealTilePrinted
public import proofs.«01_k».proof.Proof.IdealLogRegion
public import Idealize.ShloMosaic.Lib.SparseCore.Quiescent
public import Idealize.ShloMosaic.Lib.SparseCore.Ops
public import Idealize.ShloMosaic.Lib.StableHlo.Run

@[expose] public section

set_option maxRecDepth 65536

noncomputable section

namespace Cert.KernelIdeal.Tile

open Cert.KernelIdeal Cert.KernelIdeal.Gen
open Idealize.ShloMosaic Idealize.ShloMosaic.TcCoe
open Idealize.ShloMosaic.Rounds
open Idealize.ShloMosaic.StableHlo (held)
open Idealize.ShloMosaic.Pipeline (ucRefs cellsGhost toksInit)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The program's parts -/

/-- The labels of the bodies, with the pipeline's. -/
abbrev ΛP : Labels := Pipeline.Sig Λ₀ (Fin 1) fun p => (pcfgs (F := F) p).Adm
/-- The SparseCore call. -/
abbrev K : SparseCore.Cfg τ sig (ΛP (F := F)) 1 := sc (F := F)
/-- The bodies, with the pipeline's. -/
abbrev D : Defs nD τ sig (Elt F) (ΛP (F := F)) := Pipeline.defs pcfgs defs₀
/-- No body has a variant to count down, nor has the pipeline beside them. -/
abbrev 𝒱 : Variants := 𝒱₀.lift
/-- The one variant there is. -/
abbrev v₀ : 𝒱.V := Sum.inl none

/-- The call's four signals are apart, none of them is a scratch semaphore of its reader, and no array is shared within a SparseCore. -/
theorem scFacts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The user algebra: the handshakes' rounds, the pipeline's rounds, the copies' counters -/

/-- The rounds of the call's handshakes, -/
abbrev UH : Type := URounds (GSem nD τ sig) ℕ
/-- of the pipeline's cells, -/
abbrev UK : Type := URounds (GSem nD τ sig) Unit
/-- and both, with the counters of the tiles' copies. -/
abbrev UU : Type := UH × (UK × Counters)

local notation "𝕄" => MT nD τ sig (HIx 1) (Elt F) ℕ UU ℕ

/-- The handshakes' rounds among all the ghost state; -/
def EH : Emb UH 𝕄 := (Emb.inl : Emb UH UU).trans (uEmb (nD := nD) (sig := sig) (Ix := HIx 1) (Val := Elt F) (Name := ℕ) (U := UU) (Lvl := ℕ)).toEmb
/-- the rest of it; -/
def EK : Emb (UK × Counters) 𝕄 := (Emb.inr : Emb (UK × Counters) UU).trans (uEmb (nD := nD) (sig := sig) (Ix := HIx 1) (Val := Elt F) (Name := ℕ) (U := UU) (Lvl := ℕ)).toEmb
/-- the pipeline's rounds. -/
def EP : Emb UK 𝕄 := ((Emb.inl : Emb UK (UK × Counters)).trans (Emb.inr : Emb (UK × Counters) UU)).trans
  (uEmb (nD := nD) (sig := sig) (Ix := HIx 1) (Val := Elt F) (Name := ℕ) (U := UU) (Lvl := ℕ)).toEmb

/-- The handshakes' rounds are user state, -/
instance EH_lands : (EH (F := F)).LandsIn (upEmb : UEmb _ 𝕄) := by unfold EH; infer_instance
/-- and so are the pipeline's. -/
instance EP_lands : (EP (F := F)).LandsIn (upEmb : UEmb _ 𝕄) := by unfold EP; infer_instance

/-- The counters of the tiles' copies among all the ghost state. -/
abbrev EC : UEmb Counters 𝕄 := countersEmb (U := UU)

/-! ## The contents along @main -/

/-- The data, -/
abbrev a0' : DevRef τ sig := Proc.devRef .tc (main_arg0 : Ref sig .tc)
/-- the parameters, -/
abbrev a2' : DevRef τ sig := Proc.devRef .tc (main_arg2 : Ref sig .tc)
/-- the nodes' variables, -/
abbrev a3' : DevRef τ sig := Proc.devRef .tc (main_arg3 : Ref sig .tc)
/-- the parameters in rows, -/
abbrev v0' : DevRef τ sig := Proc.devRef .tc (main_v0 : Ref sig .tc)
/-- their logarithms in rows, -/
abbrev v1' : DevRef τ sig := Proc.devRef .tc (main_v1 : Ref sig .tc)
/-- the flat data, -/
abbrev v2' : DevRef τ sig := Proc.devRef .tc (main_v2 : Ref sig .tc)
/-- the flat logarithms, -/
abbrev v3' : DevRef τ sig := Proc.devRef .tc (main_v3 : Ref sig .tc)
/-- the flat result, -/
abbrev v4' : DevRef τ sig := Proc.devRef .tc (main_v4 : Ref sig .tc)
/-- the result, as arrays of the device. -/
abbrev v5' : DevRef τ sig := Proc.devRef .tc (main_v5 : Ref sig .tc)

/-- The parameters laid in rows. -/
abbrev opA : HloOp τ sig (Elt F) := StableHlo.reshape main_arg2 main_v0 (rfl : (.f32 : EltTy) = .f32) shapeCasts_S8388608_S32768x256
/-- The data laid flat. -/
abbrev opB : HloOp τ sig (Elt F) := StableHlo.reshape main_arg0 main_v2 (rfl : (.i32 : EltTy) = .i32) shapeCasts_S64x1024_S65536
/-- The logarithms laid flat. -/
abbrev opC : HloOp τ sig (Elt F) := StableHlo.reshape main_v1 main_v3 (rfl : (.f32 : EltTy) = .f32) shapeCasts_S32768x256_S8388608
/-- The result laid in rows. -/
abbrev opD : HloOp τ sig (Elt F) := StableHlo.reshape main_v4 main_v5 (rfl : (.f32 : EltTy) = .f32) shapeCasts_S33554432_S32768x1024

section Contents

variable (m : (ℓ : Loc nD τ sig) → Buf (Elt F) ℓ) (d : Dev nD)

/-- The contents at the launch, -/
def V0 : Valuation τ sig (Elt F) := fun b => m (d, b)
/-- with the parameters in rows. -/
def V1 : Valuation τ sig (Elt F) := (opA (F := F)).result (V0 m d)
/-- The logarithms of the parameters, as the pipeline leaves them. -/
def lg : Vec F S32768x256 .f32 := log (s := S32768x256) (φ := .f32) (V1 m d v0')
/-- Then with the logarithms, -/
def V2 : Valuation τ sig (Elt F) := Function.update (V1 m d) v1' (lg m d)
/-- the flat data, -/
def V3 : Valuation τ sig (Elt F) := (opB (F := F)).result (V2 m d)
/-- and the flat logarithms: what the SparseCore call finds. -/
def V4 : Valuation τ sig (Elt F) := (opC (F := F)).result (V3 m d)
/-- The flat data, as the tiles find them. -/
def dtA : Vec F S65536 .i32 := V4 m d v2'
/-- The nodes' variables, as the tiles find them. -/
def vaA : Vec F S32768 .i32 := V4 m d a3'
/-- The flat logarithms, as the tiles find them. -/
def lpA : Vec F S8388608 .f32 := V4 m d v3'
/-- What the SparseCore call leaves, -/
def V5 : Valuation τ sig (Elt F) := Function.update (V4 m d) v4' (whole (dtA m d) (vaA m d) (lpA m d))
/-- and with the result in rows: what @main leaves. -/
def V6 : Valuation τ sig (Elt F) := (opD (F := F)).result (V5 m d)

end Contents

/-! ## What the call hands over -/

variable (m : (ℓ : Loc nD τ sig) → Buf (Elt F) ℓ)

/-- The call is on sixteen subcores -/
theorem nSub_zero : (K (F := F)).nSub 0 = 16 := rfl
/-- of two SparseCores. -/
theorem nCore_zero : (K (F := F)).nCore 0 = 2 := rfl

/-- What subcore `s` of SparseCore `c` holds of the arrays after `n` chunks. -/
def deal (d : Dev nD) (n : ℕ) (c : Fin 2) (s : Fin 16) : sProp 𝕄 := Deal d (dtA m d) (vaA m d) (lpA m d) n c s

/-- A share of an array may be kept in an invariant, -/
theorem pts_storable (ℓ : Loc nD τ sig) (I : Finset (Idx ℓ)) (q : PosShare TreeShare) (f : Buf (Elt F) ℓ) : BI.Storable (upEmb : UEmb _ 𝕄) (ℓ ↦[I]{q} f) := by
  infer_instance

/-- so may a tile's pieces of the result, -/
theorem outs_storable (d : Dev nD) (i : grid1.Coords) (G : Vec F S33554432 .f32) (n : ℕ) : BI.Storable (upEmb : UEmb _ 𝕄) (Outs d i G n) := by
  unfold Outs
  haveI : ∀ k : Fin 32, BI.Storable (upEmb : UEmb _ 𝕄) (if k.val < n then Out d i k G else iprop(∃ f, Out d i k f) : sProp 𝕄) := fun k => by
    haveI : ∀ f, BI.Storable (upEmb : UEmb _ 𝕄) (Out d i k f : sProp 𝕄) := fun f => pts_storable _ _ _ _
    split <;> infer_instance
  infer_instance

/-- so may all that a tile holds, -/
instance deal_storable (d : Dev nD) (n : ℕ) (c : Fin 2) (s : Fin 16) : BI.Storable (upEmb : UEmb _ 𝕄) (deal m d n c s) := by
  unfold deal Deal
  haveI : BI.Storable (upEmb : UEmb _ 𝕄) (Ds d (coordsV c s) (share c s) (dtA m d)) := pts_storable _ _ _ _
  haveI : BI.Storable (upEmb : UEmb _ 𝕄) (Vs d (coordsV c s) (share c s) (vaA m d)) := pts_storable _ _ _ _
  haveI : BI.Storable (upEmb : UEmb _ 𝕄) (Ps d (coordsV c s) (share c s) (lpA m d)) := pts_storable _ _ _ _
  haveI := outs_storable (F := F) d (coordsV c s) (whole (dtA m d) (vaA m d) (lpA m d)) n
  infer_instance

/-- What the subcores of SparseCore `c` hold together. -/
@[irreducible] def core (d : Dev nD) (n : ℕ) (c : Fin 2) : sProp 𝕄 := bigSep Finset.univ fun s : Fin 16 => deal m d n c s

/-- and all that a SparseCore's tiles hold. -/
instance core_storable (d : Dev nD) (n : ℕ) (c : Fin 2) : BI.Storable (upEmb : UEmb _ 𝕄) (core m d n c) := by
  unfold core
  infer_instance

/-- Each tile is handed its deal, and hands it back with its pieces of the result at the value. -/
def P : (K (F := F)).Pay (nD := nD) (Val := Elt F) (Name := ℕ) (U := UU) where
  st := fun q d c => match q with | 0 => core m d 0 (Fin.cast nCore_zero c)
  dn := fun q d c => match q with | 0 => core m d 32 (Fin.cast nCore_zero c)
  go := fun q d c s => match q with | 0 => deal m d 0 (Fin.cast nCore_zero c) (Fin.cast nSub_zero s)
  td := fun q d c s => match q with | 0 => deal m d 32 (Fin.cast nCore_zero c) (Fin.cast nSub_zero s)
  x := fun _ _ => iprop(emp)

/-- All that the call hands over and back may be kept in an invariant. -/
instance P_storable : (P (F := F) m).IsStorable where
  st q d c := match q with
    | 0 => (core_storable m d 0 (Fin.cast nCore_zero c))
  dn q d c := match q with
    | 0 => (core_storable m d 32 (Fin.cast nCore_zero c))
  go q d c s := match q with
    | 0 => (deal_storable m d 0 (Fin.cast nCore_zero c) (Fin.cast nSub_zero s))
  td q d c s := match q with
    | 0 => (deal_storable m d 32 (Fin.cast nCore_zero c) (Fin.cast nSub_zero s))

/-- What is handed on whole is handed back whole. -/
theorem hand_over (A B : sProp 𝕄) : A ⊢ |={Set.univ}=> iprop(A ∗ (B -∗ B)) := by
  iintro H
  imodintro
  isplitl [H]; · iexact H
  iintro H
  iexact H

/-- A SparseCore is started with what its tiles hold before the first chunk, -/
theorem P_st (d : Dev nD) (c : Fin ((K (F := F)).nCore 0)) : (P m).st 0 d c = core m d 0 (Fin.cast nCore_zero c) := rfl
/-- and is done with what they hold after the last. -/
theorem P_dn (d : Dev nD) (c : Fin ((K (F := F)).nCore 0)) : (P m).dn 0 d c = core m d 32 (Fin.cast nCore_zero c) := rfl
/-- A tile is started with what it holds before the first chunk, -/
theorem P_go (d : Dev nD) (c : Fin ((K (F := F)).nCore 0)) (s : Fin ((K (F := F)).nSub 0)) : (P m).go 0 d c s = deal m d 0 (Fin.cast nCore_zero c) (Fin.cast nSub_zero s) := rfl
/-- and is done with what it holds after the last. -/
theorem P_td (d : Dev nD) (c : Fin ((K (F := F)).nCore 0)) (s : Fin ((K (F := F)).nSub 0)) : (P m).td 0 d c s = deal m d 32 (Fin.cast nCore_zero c) (Fin.cast nSub_zero s) := rfl

/-- What a SparseCore is started with is dealt to its tiles, and what they are done with is what it is done with. -/
theorem vecSplit : (K (F := F)).VecSplit' (P m) 0 := fun d c => by
  have h0 : (bigSep Finset.univ fun s : Fin ((K (F := F)).nSub 0) => (P m).go 0 d c s) = core m d 0 (Fin.cast nCore_zero c) := by
    unfold core
    exact bigSep_congr fun s _ => P_go m d c s
  have h1 : (bigSep Finset.univ fun s : Fin ((K (F := F)).nSub 0) => (P m).td 0 d c s) = core m d 32 (Fin.cast nCore_zero c) := by
    unfold core
    exact bigSep_congr fun s _ => P_td m d c s
  rw [h0, h1, P_st, P_dn]
  exact hand_over (core m d 0 (Fin.cast nCore_zero c)) (core m d 32 (Fin.cast nCore_zero c))

/-! ## The tile's obligation -/

section Body

variable (d : Dev nD) (i : grid1.Coords)

/-- The tile's own buffers: its four scratch buffers and the rest. -/
theorem ownBufs_tile :
    (ownBufs (thr d i) : sProp 𝕄)
      = iprop((∃ f, B0 d i f) ∗ (∃ f, B1 d i f) ∗ (∃ f, B2 d i f) ∗ (∃ f, B3 d i f)
          ∗ bigSep (((((ownRefs (τ := τ) (procOf i)).erase ((procOf i).devRef cc1_scratch0)).erase ((procOf i).devRef cc1_scratch1)).erase
              ((procOf i).devRef cc1_scratch2)).erase ((procOf i).devRef cc1_scratch3))
              fun b => iprop(∃ f, ((d, b) : Loc nD τ sig) ↦{fullShare} f)) := by
  have hm : ∀ b : Ref sig .scVector, ((procOf i).devRef b).owner = .proc (procOf i) → (procOf i).devRef b ∈ ownRefs (τ := τ) (procOf i) :=
    fun b h => SparseCore.Cfg.mem_ownRefs_of_owner h
  have hne : ∀ b b' : Ref sig .scVector, b ≠ b' → (procOf i).devRef b ≠ (procOf i).devRef b' := fun b b' h e => h (Proc.devRef_injective _ e)
  unfold SparseCore.Cfg.ownBufs
  refine (SparseCore.bigSep_erase' (hm cc1_scratch0 rfl)).trans ?_
  rw [SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide), Finset.mem_erase.mpr ⟨hne cc1_scratch2 cc1_scratch0 (by decide), hm cc1_scratch2 rfl⟩⟩),
    SparseCore.bigSep_erase' (Finset.mem_erase.mpr ⟨hne cc1_scratch3 cc1_scratch2 (by decide), Finset.mem_erase.mpr ⟨hne cc1_scratch3 cc1_scratch1 (by decide),
      Finset.mem_erase.mpr ⟨hne cc1_scratch3 cc1_scratch0 (by decide), hm cc1_scratch3 rfl⟩⟩⟩)]
  rfl

/-- The tile's program from the tile's own buffers and semaphores and its deal. -/
theorem tile_body {dt : Vec F S65536 .i32} {va : Vec F S32768 .i32} {Pv : Vec F S8388608 .f32} {c : Fin 2} {s : Fin 16}
    {O : CellTallies nD τ sig (HIx 1)} {W : Waits sig (HIx 1)} (hO : ∀ g, O g none = 0) (hva : ∀ x, (va x).toNat < 64) (hdt : ∀ x, (dt x).toNat < 256) :
    iprop(levAts (K (F := F)).L (K (F := F)).lev ∗ Deal d dt va Pv 0 c s ∗ ownBufs (thr d (coordsV c s)) ∗ ownSems0 (thr d (coordsV c s)) ∗ owes (thr d (coordsV c s)) O W)
      ⊢ wp frame (wpE (defs₀ (F := F)) 𝒱₀ (thr d (coordsV c s)) none) Set.univ (prog (coordsV c s)) fun _ =>
        (iprop(Deal d dt va Pv 32 c s ∗ ownBufs (thr d (coordsV c s)) ∗ ownSems0 (thr d (coordsV c s))
          ∗ ∃ W', ⌜∀ p ∈ W', p ∈ W ∨ p.2 = none⌝ ∗ owes (thr d (coordsV c s)) O W') : sProp 𝕄) := by
  have hw : (levAts (K (F := F)).L (K (F := F)).lev : sProp 𝕄) ⊢ Transfers.MayWaits (thr d (coordsV c s)) none O := (K (F := F)).mayWaits_none hO
  have hG := fun k => whole_read (F := F) (coordsV c s) k (dt := dt) (va := va) (Pv := Pv) hdt
  rw [ownBufs_tile]
  unfold Deal
  iintro ⟨Hlv, ⟨HD, HV, HP, HOut⟩, ⟨H0, H1, H2, H3, Hrest⟩, Hs, HO⟩
  ihave Hmw := hw $$ Hlv
  ihave Hwp := (wp_prog (EC (F := F)) d (coordsV c s) (G := whole dt va Pv) (O := O) (W := W) (fun x => hva _) hdt hG) $$ [Hmw HD HV HP HOut H0 H1 H2 H3 Hs HO]
  · unfold Idle
    isplitl [Hmw Hs HO]
    · isplitl [Hs]; · iexact Hs
      isplitl [Hmw]; · iexact Hmw
      iexists W
      isplitr
      · ipureintro; exact fun p hp => Or.inl hp
      iexact HO
    isplitl [HD]; · iexact HD
    isplitl [HV]; · iexact HV
    isplitl [HP]; · iexact HP
    isplitl [H0]; · iexact H0
    isplitl [H1]; · iexact H1
    isplitl [H2]; · iexact H2
    isplitl [H3]; · iexact H3
    iexact HOut
  iapply (wp_wand frame (wpE (defs₀ (F := F)) 𝒱₀ (thr d (coordsV c s)) none)) $$ [Hwp]
  · iexact Hwp
  iintro %u ⟨HI, HD, HV, HP, H0, H1, H2, H3, HOut⟩
  unfold Idle
  icases HI with ⟨Hs, -, HO⟩
  isplitl [HD HV HP HOut]
  · isplitl [HD]; · iexact HD
    isplitl [HV]; · iexact HV
    isplitl [HP]; · iexact HP
    iexact HOut
  isplitl [H0 H1 H2 H3 Hrest]
  · isplitl [H0]; · iexact H0
    isplitl [H1]; · iexact H1
    isplitl [H2]; · iexact H2
    isplitl [H3]; · iexact H3
    iexact Hrest
  isplitl [Hs]; · iexact Hs
  iexact HO

end Body

/-- The body table at a vector subcore's label is the printed kernel at its grid point. -/
theorem defs₀_vector (c : Fin τ.nSC) (s : Fin τ.nSub) :
    defs₀ (F := F) (.scVector c s) 1 ()
      = SparseCore.onTile hcore1 hsub1 (fun c s => cc1__sc_gather (coordsV c s) (Memref.whole main_v2_scv) (Memref.isWhole_whole _) (Memref.whole main_arg3_scv) (Memref.isWhole_whole _) (Memref.whole main_v3_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65) ⟨⟩ c s := rfl

/-- A tile that waited only on its own cells waited on those or for the call. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  iexact HO

/-- An empty part may be dropped. -/
theorem drop_emp (A B : sProp 𝕄) : iprop(A ∗ emp ∗ B) ⊢ iprop(A ∗ B) := by
  iintro ⟨HA, -, HB⟩
  isplitl [HA] <;> iassumption

/-- The ranges of the indices the tiles read: every data value below 256, every variable below 64. -/
def InRange : Prop := (∀ d x, (dtA m d x).toNat < 256) ∧ ∀ d x, (vaA m d x).toNat < 64

/-- With the indices in range, every tile runs from what it is started with to what it is done with. -/
theorem tileObl (hm : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]
  simp only [SparseCore.onTile, hc, and_self, ↓reduceDIte]
  rw [printed_eq, (K (F := F)).scopedBufs_V scFacts d _ _, SparseCore.Cfg.scopedSems0_V (Val := Elt F) d _ _]
  exact (drop_emp _ _).trans ((tile_body (F := F) d (dt := dtA m d) (va := vaA m d) (Pv := lpA m d) (c := Fin.cast nCore_zero c) (s := Fin.cast nSub_zero i)
    (O := O) (W := W) hO (hm.2 d) (hm.1 d)).trans (wp_mono frame _ _ fun _ => obl_post))

end Cert.KernelIdeal.Tile
-- ==== Proof.IdealMain.lean ====
/-
  @main on the TensorCore, and the program's run.
-/
module

public import proofs.«01_k».proof.Proof.IdealLaunch
public import Idealize.ShloMosaic.Lib.Pipeline.Sound
public import Idealize.ShloMosaic.Lib.Pipeline.Frame

@[expose] public section

set_option maxRecDepth 65536

noncomputable section

namespace Cert.KernelIdeal.Tile

open Cert.KernelIdeal Cert.KernelIdeal.Gen
open Idealize.ShloMosaic Idealize.ShloMosaic.TcCoe
open Idealize.ShloMosaic.Rounds
open Idealize.ShloMosaic.StableHlo (held held_sub_split)
open Idealize.ShloMosaic.Pipeline (ucRefs cellsGhost toksInit)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the launch funds -/

/-- The pipeline at its one admissible instance. -/
abbrev pcs : (p : Fin 1) → Pipeline.Cfg sig Λ₀ := Pipeline.pin (pcfgs (F := F)) adm

/-- The pipeline's cells are told apart by their semaphores. -/
theorem pcs_inj : Function.Injective (Pipeline.cellOf (nD := nD) (τ := τ) (pcs (F := F))) := cellOf_inj

/-- The ghost state at the launch: the handshakes' tokens and the pipeline's. -/
def u₀ : UU := (initOf (K (F := F)).hsCells (K (F := F)).hsToks,
  (initOf (Pipeline.cells (pcs (F := F)) pcs_inj) (Pipeline.launchToks (pcs (F := F)) pcs_inj), 1))

/-- The ghost state splits into the handshakes' part and the pipeline's. -/
theorem own_split (a : UH) (b : UK) (c : Counters) :
    (ownU ((a, (b, c)) : UU) : sProp 𝕄) ⊢ iprop(BI.own (EH (F := F) a) ∗ BI.own (EP (F := F) b)) := by
  have h1 : (ownU ((a, (b, c)) : UU) : sProp 𝕄) ⊢ iprop(BI.own (EH (F := F) a) ∗ BI.own (EK (F := F) (b, c))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own (EK (F := F) (b, c)) : sProp 𝕄) ⊢ iprop(BI.own (EP (F := F) b) ∗ BI.own (EK (F := F) (1, c))) :=
    BI.own_op_elim ((EK (F := F)).op_of_mem (Prod.mk_mem_op (URA.mem_op_one b) (URA.mem_one_op c)))
  iintro H
  ihave H := h1 $$ H
  icases H with ⟨HH, HK⟩
  ihave HK := h2 $$ HK
  icases HK with ⟨HP, -⟩
  isplitl [HH] <;> iassumption

/-- What device `d` is funded for its pipeline. -/
def G (d : Dev nD) : sProp 𝕄 := iprop(cellsGhost (pcs (F := F)) (EP (F := F)) 0 d ∗ toksInit (pcs (F := F)) (EP (F := F)) 0 d)

/-- A product over one pipeline is its only factor. -/
theorem univ_one (Φ : Fin 1 → sProp 𝕄) : (bigSep Finset.univ fun p : Fin 1 => Φ p) = Φ 0 :=
  bigSep_singleton

/-- A product of nothings is nothing. -/
theorem bigSep_emp' {I : Type} (s : Finset I) : (bigSep s fun _ => iprop(emp)) = (iprop(emp) : sProp 𝕄) := bigSep_emp_const s

/-- The ghost state at the launch funds the handshakes and every device's pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hf := Pipeline.fund_ghost (nD := nD) (τ := τ) (pcs (F := F)) (EP (F := F)) pcs_inj
  have hx : (bigSep Finset.univ fun thr : Thread nD τ => bigSep Finset.univ fun q : Fin 1 => (P m).x q thr) = (iprop(emp) : sProp 𝕄) := by
    show (bigSep Finset.univ fun _ : Thread nD τ => bigSep Finset.univ fun _ : Fin 1 => (iprop(emp) : sProp 𝕄)) = iprop(emp)
    rw [bigSep_congr fun _ _ => bigSep_emp' _, bigSep_emp']
  rw [hx]
  unfold u₀
  iintro Hu
  ihave H := (own_split (F := F) _ _ _) $$ Hu
  icases H with ⟨HH, HP⟩
  imod hf $$ HP with ⟨Hg, Ht⟩
  imodintro
  isplitl [HH]; · iexact HH
  isplitl
  · unfold G
    rw [bigSep_sep']
    isplitl [Hg]
    · rw [bigSep_congr fun d _ => (univ_one (fun p => cellsGhost (pcs (F := F)) (EP (F := F)) p d)).symm]
      iexact Hg
    · rw [bigSep_congr fun d _ => (univ_one (fun p => toksInit (pcs (F := F)) (EP (F := F)) p d)).symm]
      iexact Ht
  iempintro

/-! ## The pipeline's step -/

/-- After the logarithm's region its result holds the logarithms, -/
theorem V2_out (d : Dev nD) : V2 m d v1' = lg m d := Function.update_self _ _ _
/-- and every other array what it held. -/
theorem V2_ne (d : Dev nD) (b : DevRef τ sig) (h : b ≠ v1') : V2 m d b = V1 m d b := Function.update_of_ne h _ _

/-- The contents before the logarithm's region, by the TensorCore's arrays, -/
abbrev vA (c : Dev nD) (b : Ref sig .tc) : Buf (Elt F) ((c : Thread nD τ).loc b) := V1 m c (Proc.devRef .tc b)
/-- and after it. -/
abbrev vB (c : Dev nD) (b : Ref sig .tc) : Buf (Elt F) ((c : Thread nD τ).loc b) := V2 m c (Proc.devRef .tc b)

/-- The logarithm's region at the contents @main reaches it with. -/
abbrev logReg := reg (F := F) (U := UU) (vA m) (vB m) (fun c => V2_out m c)
  (fun c b hb => V2_ne m c _ fun e => hb (Proc.devRef_injective _ e))

/-- What the logarithm's region starts from: every array as before it, and nothing owed to the call. -/
theorem logReg_pre (d : Dev nD) : (logReg m).pre d
    = iprop(unscopedBufs d (vA m d) ∗ ∃ W, ⌜(sc (F := F)).WBelow (SparseCore.T d) W 0⌝ ∗ owes (d : Thread nD τ) ((sc (F := F)).Otc d 0) W) := rfl
/-- What it leaves: every array as after it, and nothing owed to the call. -/
theorem logReg_post (d : Dev nD) : (logReg m).post d
    = iprop(unscopedBufs d (vB m d) ∗ ∃ W, ⌜(sc (F := F)).WBelow (SparseCore.T d) W 0⌝ ∗ owes (d : Thread nD τ) ((sc (F := F)).Otc d 0) W) := rfl

/-- The logarithm's region takes @main from the contents before it to those after it. -/
theorem region_step [∀ e, Nonempty (Elt F e)] (d : Dev nD) (Φ : PUnit → sProp 𝕄) :
    iprop(((boundary (SparseCore.T d) ∗ held (SparseCore.T d) (ucRefs τ sig) (V2 m d) ∗ (K (F := F)).tcSt (EH (F := F)) d 0) -∗ Φ ⟨⟩)
        ∗ boundary (SparseCore.T d) ∗ held (SparseCore.T d) (ucRefs τ sig) (V1 m d) ∗ (K (F := F)).tcSt (EH (F := F)) d 0
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  have hA : (unscopedBufs d (vA m d) : sProp 𝕄) = held (SparseCore.T d) (ucRefs τ sig) (V1 m d) := Pipeline.unscopedBufs_held d (V1 m d)
  have hB : (unscopedBufs d (vB m d) : sProp 𝕄) = held (SparseCore.T d) (ucRefs τ sig) (V2 m d) := Pipeline.unscopedBufs_held d (V2 m d)
  have hp : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl
  have hl := (K (F := F)).wp_liftProg (D (F := F)) 𝒱 (SparseCore.T d) Set.univ none (.op (.customCall (Pipeline.entry 0) ()) fun _ => .ret ⟨⟩) Φ
  rw [hp]
  have hw := Pipeline.RegionSeg.wp (pcfgs (F := F)) adm (pdats (U := UU) (vA m)) none pcs_inj (EP (F := F)) defs₀ 𝒱₀ (K (F := F)).L (K (F := F)).lev
    (logReg m) d none (fun _ h => nomatch h) (fun _ => .ret ⟨⟩) Φ
  rw [logReg_pre, logReg_post, hA, hB] at hw
  have hwl := hw.trans hl
  unfold SparseCore.Cfg.tcSt G
  iintro ⟨Hk, Hb, Hh, ⟨⟨%W, %hW, HO⟩, Hst⟩, Hl, Hg, Ht⟩
  iapply hwl
  isplitl [Hk Hst]
  · iintro ⟨Hb, Hh, %W', %hW', HO⟩
    rw [wp_ret]
    imodintro
    iapply Hk
    isplitl [Hb]; · iexact Hb
    isplitl [Hh]; · iexact Hh
    isplitl [HO]
    · iexists W'
      isplitr; · ipureintro; exact hW'
      iexact HO
    iexact Hst
  isplitl [Hb]; · iexact Hb
  isplitl [Hh HO]
  · isplitl [Hh]; · iexact Hh
    iexists W
    isplitr; · ipureintro; exact hW
    iexact HO
  isplitl [Hl]; · iexact Hl
  isplitl [Hg]; · iexact Hg
  iexact Ht

/-! ## The SparseCore call's step -/

/-- The four arrays of the call. -/
abbrev S4 : Finset (DevRef τ sig) := {v2', a3', v3', v4'}

/-- The call's arrays are among the device's. -/
theorem S4_sub : S4 ⊆ ucRefs τ sig := by decide

/-- Holding the call's arrays is holding each of the four. -/
theorem held_S4 (d : Dev nD) (W : Valuation τ sig (Elt F)) :
    (held (SparseCore.T d) S4 W : sProp 𝕄) = iprop(((SparseCore.T d).loc main_v2 ↦{fullShare} W v2') ∗ ((SparseCore.T d).loc main_arg3 ↦{fullShare} W a3')
      ∗ ((SparseCore.T d).loc main_v3 ↦{fullShare} W v3') ∗ (SparseCore.T d).loc main_v4 ↦{fullShare} W v4') := by
  unfold held S4
  rw [SparseCore.bigSep_insert' (by decide), SparseCore.bigSep_insert' (by decide), SparseCore.bigSep_insert' (by decide), bigSep_singleton]

/-- After the call the flat result holds the value, -/
theorem V5_out (d : Dev nD) : V5 m d v4' = whole (dtA m d) (vaA m d) (lpA m d) := Function.update_self _ _ _
/-- and every other array what it held. -/
theorem V5_ne (d : Dev nD) (b : DevRef τ sig) (h : b ≠ v4') : V5 m d b = V4 m d b := Function.update_of_ne h _ _

/-- The call's arrays before it are what the SparseCores are started with. -/
theorem cores_in (d : Dev nD) :
    (held (SparseCore.T d) S4 (V4 m d) : sProp 𝕄) ⊢ bigSep Finset.univ fun c : Fin ((K (F := F)).nCore 0) => (P m).st 0 d c := by
  have h : (bigSep Finset.univ fun c : Fin ((K (F := F)).nCore 0) => (P m).st 0 d c)
      = (bigSep Finset.univ fun c : Fin (grid1.bound 0) => bigSep Finset.univ fun s : Fin (grid1.bound 1) => Deal d (dtA m d) (vaA m d) (lpA m d) 0 c s : sProp 𝕄) :=
    (bigSep_congr fun c _ => P_st m d c).trans (by unfold core deal; rfl)
  rw [h, held_S4]
  exact deal_in d (dtA m d) (vaA m d) (lpA m d) (V4 m d v4')

/-- What the SparseCores are done with is the call's arrays after it. -/
theorem cores_out (d : Dev nD) :
    (bigSep Finset.univ fun c : Fin ((K (F := F)).nCore 0) => (P m).dn 0 d c) ⊢ (held (SparseCore.T d) S4 (V5 m d) : sProp 𝕄) := by
  have h : (bigSep Finset.univ fun c : Fin ((K (F := F)).nCore 0) => (P m).dn 0 d c)
      = (bigSep Finset.univ fun c : Fin (grid1.bound 0) => bigSep Finset.univ fun s : Fin (grid1.bound 1) => Deal d (dtA m d) (vaA m d) (lpA m d) 32 c s : sProp 𝕄) :=
    (bigSep_congr fun c _ => P_dn m d c).trans (by unfold core deal; rfl)
  rw [h, held_S4, V5_out, V5_ne m d v2' (by decide), V5_ne m d a3' (by decide), V5_ne m d v3' (by decide)]
  exact deal_back d (dtA m d) (vaA m d) (lpA m d)

/-- The SparseCore call takes @main from the contents before it to those after it. -/
theorem call_step (κ : GSem nD τ sig → ℕ) (d : Dev nD) (Φ : PUnit → sProp 𝕄) :
    iprop((K (F := F)).ctx (EH (F := F)) (P m) κ ∗ (K (F := F)).tcSt (EH (F := F)) d 0 ∗ held (SparseCore.T d) (ucRefs τ sig) (V4 m d)
        ∗ (((K (F := F)).tcSt (EH (F := F)) d 1 ∗ held (SparseCore.T d) (ucRefs τ sig) (V5 m d)) -∗ Φ ⟨⟩))
      ⊢ wp frame (wpE ((K (F := F)).defs (D (F := F))) 𝒱 (SparseCore.T d) none) Set.univ ((K (F := F)).run d 0) Φ := by
  have hr : (held (SparseCore.T d) (ucRefs τ sig \ S4) (V4 m d) : sProp 𝕄) = held (SparseCore.T d) (ucRefs τ sig \ S4) (V5 m d) :=
    StableHlo.held_congr (SparseCore.T d) fun b hb => (V5_ne m d b fun e => (Finset.mem_sdiff.mp hb).2 (by rw [e]; decide)).symm
  have hin := cores_in m d
  have hout := cores_out m d
  rw [held_sub_split (SparseCore.T d) S4_sub (V4 m d), held_sub_split (SparseCore.T d) S4_sub (V5 m d), hr]
  iintro ⟨Hc, Hst, ⟨H4, Hr⟩, Hk⟩
  iapply ((K (F := F)).wp_run (D (F := F)) 𝒱 (EH := EH (F := F)) (P := P m) κ d 0)
  isplitl [Hc]; · iexact Hc
  isplitl [Hst]; · iexact Hst
  isplitl [H4]
  · iapply hin; iexact H4
  iintro ⟨Hst, Hdn⟩
  iapply Hk
  isplitl [Hst]; · iexact Hst
  isplitl [Hdn]
  · iapply hout; iexact Hdn
  iexact Hr

/-! ## @main -/

/-- What @main leaves: every array at its last contents. -/
abbrev FIN (d : Dev nD) : sProp 𝕄 := held (SparseCore.T d) (ucRefs τ sig) (V6 m d)

/-- @main runs from the launch to the last contents. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have h0 : (unscopedBufs d (fun b => m ((SparseCore.T d).loc b)) : sProp 𝕄) = held (SparseCore.T d) (ucRefs τ sig) (V0 m d) :=
    Pipeline.unscopedBufs_held d (V0 m d)
  have hA : (opA (F := F)).bufs ⊆ ucRefs τ sig := Pipeline.sub_ucRefs _ (StableHlo.reshape_bufs_sub ..)
  have hB : (opB (F := F)).bufs ⊆ ucRefs τ sig := Pipeline.sub_ucRefs _ (StableHlo.reshape_bufs_sub ..)
  have hC : (opC (F := F)).bufs ⊆ ucRefs τ sig := Pipeline.sub_ucRefs _ (StableHlo.reshape_bufs_sub ..)
  have hD : (opD (F := F)).bufs ⊆ ucRefs τ sig := Pipeline.sub_ucRefs _ (StableHlo.reshape_bufs_sub ..)
  unfold SparseCore.Cfg.tcRes SparseCore.Cfg.tcEnd
  rw [h0]
  simp only [main, wp_bind, wp_pure]
  iintro ⟨#Hctx, Hst, ⟨Hb, Hh, Hts, -⟩, HG⟩
  ihave Hlev := ((K (F := F)).ctx_levAts (EH := EH (F := F)) (P := P m) κ) $$ Hctx
  iapply (StableHlo.wp_hlo_within 𝒱 (SparseCore.T d) none Set.univ (op := opA) (S := ucRefs τ sig) hA (V := V0 m d)) $$ [Hb Hh]
  · isplitl [Hb]; · iexact Hb
    iexact Hh
  iintro ⟨Hb, Hh⟩
  rw [wp_ret]; imodintro
  iapply (region_step m d)
  isplitr [Hb Hh Hst Hlev HG]
  rotate_left
  · isplitl [Hb]; · iexact Hb
    isplitl [Hh]; · iexact Hh
    isplitl [Hst]; · iexact Hst
    isplitl [Hlev]; · iexact Hlev
    iexact HG
  iintro ⟨Hb, Hh, Hst⟩
  iapply (StableHlo.wp_hlo_within 𝒱 (SparseCore.T d) none Set.univ (op := opB) (S := ucRefs τ sig) hB (V := V2 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opC) (S := ucRefs τ sig) hC (V := V3 m d)) $$ [Hb Hh]
  · isplitl [Hb]; · iexact Hb
    iexact Hh
  iintro ⟨Hb, Hh⟩
  rw [wp_ret]; imodintro
  iapply (call_step m κ d)
  isplitr; · iexact Hctx
  isplitl [Hst]; · iexact Hst
  isplitl [Hh]; · iexact Hh
  iintro ⟨Hst, Hh⟩
  iapply (StableHlo.wp_hlo_within 𝒱 (SparseCore.T d) none Set.univ (op := opD) (S := ucRefs τ sig) hD (V := V5 m d)) $$ [Hb Hh]
  · isplitl [Hb]; · iexact Hb
    iexact Hh
  iintro ⟨Hb, Hh⟩
  rw [wp_ret]; imodintro; imodintro
  isplitl [Hst]; · iexact Hst
  isplitl [Hh]; · iexact Hh
  isplitl [Hb] <;> iassumption

/-! ## The run -/

/-- At the end every array of device `d` holds its last contents. -/
def fq (d : Dev nD) (s' : Phys nD τ sig (Elt F)) : Prop := ∀ b ∈ ucRefs τ sig, s'.mem.mem (d, b) = V6 m d b

/-- Where @main has left its last contents, the memory holds them. -/
theorem hfin (d : Dev nD) (s' : Phys nD τ sig (Elt F)) : iprop(FIN m d ∗ SI s') ⊢ (⌜fq m d s'⌝ : sProp 𝕄) := by
  have h : ∀ b ∈ ucRefs τ sig, iprop(FIN m d ∗ SI s') ⊢ (⌜s'.mem.mem (d, b) = V6 m d b⌝ : sProp 𝕄) := fun b hb => by
    have e : (FIN m d : sProp 𝕄) ⊢ (((d, b) : Loc nD τ sig) ↦{fullShare} V6 m d b : sProp 𝕄) := by
      unfold FIN held
      exact bigSep_elim (Φ := fun b => (((d, b) : Loc nD τ sig) ↦{fullShare} V6 m d b : sProp 𝕄)) hb
    iintro ⟨Hx, HSI⟩
    ihave Hx := e $$ Hx
    ihave H := (SI_pointsTo_agree (st := s') (ℓ := ((d, b) : Loc nD τ sig)) (I := Finset.univ) (q := fullShare) (f := V6 m d b)) $$ [HSI Hx]
    · isplitl [HSI] <;> iassumption
    icases H with %hx
    ipureintro; exact funext fun i => hx i (Finset.mem_univ i)
  unfold fq
  by_cases hq : ∀ b ∈ ucRefs τ sig, s'.mem.mem (d, b) = V6 m d b
  · iintro -; ipureintro; exact hq
  · obtain ⟨b, hb⟩ := not_forall.mp hq
    obtain ⟨hb, hne⟩ := not_forall.mp hb
    have hf := h b hb
    iintro H
    ihave H := hf $$ H
    icases H with %e
    exact absurd e hne

/-- What the run ends with: every array at its last contents, every semaphore at zero. -/
def QC : PUnit × MemSt nD τ sig (Elt F) → Prop := fun r => (∀ d, ∀ b ∈ ucRefs τ sig, r.2.mem (d, b) = V6 m d b) ∧ r.2.sem = fun _ => 0

/-- The program's run: every array ends at its last contents, every semaphore at zero. -/
theorem run_main [∀ e, Nonempty (Elt F e)] (hm : InRange m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH (F := F)) (P := P m) (A := ∅) scFacts v₀
    (fun q hq => match q with | 0 => nomatch hq)
    (fun q _ => match q with | 0 => tileObl m hm)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.KernelIdeal.Tile
-- ==== Proof.IdealValues.lean ====
/-
  What the arrays hold at the end, as functions of the launch memory.
-/
module

public import proofs.«01_k».proof.Proof.IdealMain

@[expose] public section

set_option maxRecDepth 65536

noncomputable section

namespace Cert.KernelIdeal.Tile

open Cert.KernelIdeal Cert.KernelIdeal.Gen
open Idealize.ShloMosaic Idealize.ShloMosaic.TcCoe
open Idealize.ShloMosaic.Pipeline (ucRefs)

variable {F : FTy → Type} [FloatOps F]
variable (m : (ℓ : Loc nD τ sig) → Buf (Elt F) ℓ) (d : Dev nD)

/-- An array none of the operations of @main writes. -/
abbrev Kept (b : Ref sig .tc) : Prop := b ≠ main_v0 ∧ b ≠ main_v1 ∧ b ≠ main_v2 ∧ b ≠ main_v3 ∧ b ≠ main_v4 ∧ b ≠ main_v5

/-- Two arrays of the TensorCore are two arrays of the device. -/
theorem ne_dev {b b' : Ref sig .tc} (h : b ≠ b') : (Proc.devRef .tc b : DevRef τ sig) ≠ Proc.devRef .tc b' := fun e => h (Proc.devRef_injective _ e)

/-- Laying the parameters in rows leaves every other array. -/
theorem V1_kept {b : Ref sig .tc} (h : b ≠ main_v0) : V1 m d (Proc.devRef .tc b) = m (d, Proc.devRef .tc b) :=
  StableHlo.reshape_result_ne _ _ _ _ _ _ _ h

/-- So does the logarithm's region, but for its result. -/
theorem V2_kept {b : Ref sig .tc} (h0 : b ≠ main_v0) (h1 : b ≠ main_v1) : V2 m d (Proc.devRef .tc b) = m (d, Proc.devRef .tc b) :=
  (V2_ne m d _ (ne_dev h1)).trans (V1_kept m d h0)

/-- An array @main does not write is at the call what it was at the launch. -/
theorem V4_kept {b : Ref sig .tc} (h : Kept b) : V4 m d (Proc.devRef .tc b) = m (d, Proc.devRef .tc b) :=
  (StableHlo.reshape_result_ne _ _ _ _ _ _ _ h.2.2.2.1).trans
    ((StableHlo.reshape_result_ne _ _ _ _ _ _ _ h.2.2.1).trans (V2_kept m d h.1 h.2.1))

/-- An array @main does not write ends as it started. -/
theorem V6_kept {b : Ref sig .tc} (h : Kept b) : V6 m d (Proc.devRef .tc b) = m (d, Proc.devRef .tc b) :=
  (StableHlo.reshape_result_ne _ _ _ _ _ _ _ h.2.2.2.2.2).trans ((V5_ne m d _ (ne_dev h.2.2.2.2.1)).trans (V4_kept m d h))

/-- The nodes' variables the tiles find are the argument. -/
theorem vaA_eq : vaA m d = m (d, a3') := V4_kept m d (b := main_arg3) (by decide)

/-- The data the tiles find are the argument, laid flat. -/
theorem dtA_eq : dtA m d = shapeCast S65536 (m (d, a0') : Vec F S64x1024 .i32) shapeCasts_S64x1024_S65536 := by
  have h : V3 m d v2' = shapeCast S65536 (V2 m d a0' : Vec F S64x1024 .i32) shapeCasts_S64x1024_S65536 := StableHlo.reshape_result _ _ _ _ _ _ _
  have h4 : V4 m d v2' = V3 m d v2' := StableHlo.reshape_result_ne _ _ _ _ _ _ _ (by decide : (main_v2 : Ref sig .tc) ≠ main_v3)
  unfold dtA
  exact h4.trans (h.trans (congrArg (fun x : Vec F S64x1024 .i32 => shapeCast S65536 x shapeCasts_S64x1024_S65536) (V2_kept m d (b := main_arg0) (by decide) (by decide))))

/-- The logarithms are those of the parameters in rows. -/
theorem lg_eq : lg m d = log (s := S32768x256) (φ := .f32) (shapeCast S32768x256 (m (d, a2') : Vec F S8388608 .f32) shapeCasts_S8388608_S32768x256) := by
  have h : V1 m d v0' = shapeCast S32768x256 (m (d, a2') : Vec F S8388608 .f32) shapeCasts_S8388608_S32768x256 := StableHlo.reshape_result _ _ _ _ _ _ _
  exact congrArg (log (s := S32768x256) (φ := .f32)) h

/-- The logarithms the tiles find are those, laid flat. -/
theorem lpA_eq : lpA m d = shapeCast S8388608 (log (s := S32768x256) (φ := .f32) (shapeCast S32768x256 (m (d, a2') : Vec F S8388608 .f32) shapeCasts_S8388608_S32768x256))
    shapeCasts_S32768x256_S8388608 := by
  have h : V4 m d v3' = shapeCast S8388608 (V3 m d v1' : Vec F S32768x256 .f32) shapeCasts_S32768x256_S8388608 := StableHlo.reshape_result _ _ _ _ _ _ _
  have h3 : V3 m d v1' = V2 m d v1' := StableHlo.reshape_result_ne _ _ _ _ _ _ _ (by decide : (main_v1 : Ref sig .tc) ≠ main_v2)
  unfold lpA
  rw [h, h3, V2_out, lg_eq]

/-- The kernel's result as a function of the data, the nodes' variables and the parameters. -/
def outOf (x : Vec F S64x1024 .i32) (va : Vec F S32768 .i32) (p : Vec F S8388608 .f32) : Vec F S32768x1024 .f32 :=
  shapeCast S32768x1024 (whole (shapeCast S65536 x shapeCasts_S64x1024_S65536) va
    (shapeCast S8388608 (log (s := S32768x256) (φ := .f32) (shapeCast S32768x256 p shapeCasts_S8388608_S32768x256)) shapeCasts_S32768x256_S8388608))
    shapeCasts_S33554432_S32768x1024

/-- The result @main leaves is `outOf` of the arguments. -/
theorem V6_out : V6 m d v5' = outOf (m (d, a0')) (m (d, a3')) (m (d, a2')) := by
  have h : V6 m d v5' = shapeCast S32768x1024 (V5 m d v4' : Vec F S33554432 .f32) shapeCasts_S33554432_S32768x1024 := StableHlo.reshape_result _ _ _ _ _ _ _
  rw [h, V5_out, dtA_eq, vaA_eq, lpA_eq]
  rfl

/-- The ranges at the launch memory. -/
theorem inRange_of (h0 : ∀ d x, ((m (d, a0') : Vec F S64x1024 .i32) x).toNat < 256) (h3 : ∀ d x, ((m (d, a3') : Vec F S32768 .i32) x).toNat < 64) : InRange m := by
  refine ⟨fun d x => ?_, fun d x => ?_⟩
  · rw [dtA_eq]; exact h0 d _
  · rw [vaA_eq]; exact h3 d x

end Cert.KernelIdeal.Tile
-- ==== Proof.Pre.lean ====
/-
  What the preconditions say of the arrays: `indices`, that the data are in [0, 256) and the variables in [0, 64); `ranges`,
  besides, that node `n`'s parameters begin at 256 n.
-/
module

public import proofs.«01_k».proof.Defs
public import proofs.«01_k».proof.Proof.Gen.Pre_indices
public import proofs.«01_k».proof.Proof.Gen.Pre_ranges
public import Idealize.ShloMosaic.Lib.ReduceAll
public import Idealize.ShloMosaic.Lib.Affine

@[expose] public section

noncomputable section

namespace Cert.Pre

open Cert.Pre_ranges Cert.Pre_ranges.Gen
open Idealize.ShloMosaic

/-- A scalar has one index. -/
instance : Subsingleton S_.Idx := ⟨fun _ _ => funext fun a => a.elim0⟩

/-- The conjunction of two bits is one only where both are. -/
theorem andi_one {x y : BitVec 1} (h : IntOp.andi x y = 1#1) : x = 1#1 ∧ y = 1#1 := by
  revert x y
  decide

/-- A word that is at least zero and below a small bound, both read signed, is below it read unsigned. -/
theorem toNat_lt {x : BitVec 32} {n : ℕ} (hn : n < 2 ^ 31) (h0 : (0#32).toInt ≤ x.toInt) (h1 : x.toInt < (BitVec.ofNat 32 n).toInt) : x.toNat < n := by
  have hx := x.isLt
  have hn' : (BitVec.ofNat 32 n).toNat = n := by rw [BitVec.toNat_ofNat]; exact Nat.mod_eq_of_lt (by omega)
  rw [BitVec.toInt_eq_toNat_cond, BitVec.toInt_eq_toNat_cond, hn'] at h1
  rw [BitVec.toInt_eq_toNat_cond, BitVec.toInt_eq_toNat_cond, BitVec.toNat_ofNat] at h0
  split at h1 <;> split at h1 <;> split at h0 <;> simp at h0 <;> omega

variable {F : FTy → Type} [FloatOps F]
variable {a0 : IVec S64x1024 32} {a1 : FVec F S32768x1024 .f32} {a2 : FVec F S8388608 .f32} {a3 a4 : IVec S32768 32}

/-- The two conjuncts of `indices`, read at each element. -/
theorem decode_indices (h : Cert.Pre_indices.fn (F := F) a0 a1 a2 a3 a4 = fun _ => 1#1) : (∀ x, (a0 x).toNat < 256) ∧ ∀ x, (a3 x).toNat < 64 := by
  have e := congrFun h (Shape.Idx.first Cert.Pre_indices.Facts.h_S_)
  dsimp only [Cert.Pre_indices.fn, andi] at e
  obtain ⟨e0, e3⟩ := andi_one e
  refine ⟨fun x => ?_, fun x => ?_⟩
  · obtain ⟨p, q⟩ := andi_one (Host.reduce_andi_all _ _ _ _ _ e0 x)
    exact toNat_lt (by decide) (IntOp.cmpi_sge.1 p) (IntOp.cmpi_slt.1 q)
  · obtain ⟨p, q⟩ := andi_one (Host.reduce_andi_all _ _ _ _ _ e3 x)
    exact toNat_lt (by decide) (IntOp.cmpi_sge.1 p) (IntOp.cmpi_slt.1 q)

/-- The three conjuncts of `ranges`, read at each element. -/
theorem decode_ranges (h : fn (F := F) a0 a1 a2 a3 a4 = fun _ => 1#1) :
    (∀ x, (a0 x).toNat < 256) ∧ (∀ x, (a3 x).toNat < 64) ∧ ∀ x, a4 x = IntOp.muli (BitVec.ofNat 32 (x 0).val) 256#32 := by
  have e := congrFun h (Shape.Idx.first Facts.h_S_)
  dsimp only [fn, fn_part1, andi] at e
  obtain ⟨e, e4⟩ := andi_one e
  obtain ⟨e0, e3⟩ := andi_one e
  refine ⟨fun x => ?_, fun x => ?_, fun x => ?_⟩
  · obtain ⟨p, q⟩ := andi_one (Host.reduce_andi_all _ _ _ _ _ e0 x)
    exact toNat_lt (by decide) (IntOp.cmpi_sge.1 p) (IntOp.cmpi_slt.1 q)
  · obtain ⟨p, q⟩ := andi_one (Host.reduce_andi_all _ _ _ _ _ e3 x)
    exact toNat_lt (by decide) (IntOp.cmpi_sge.1 p) (IntOp.cmpi_slt.1 q)
  · exact IntOp.cmpi_eq.1 (Host.reduce_andi_all _ _ _ _ _ e4 x)

end Cert.Pre
-- ==== Proof.Ref.lean ====
/-
  The reference's result read at an index: under the ranges, row `n`, column `b` of it is the logarithm of the parameter at
  node `n`'s offset and the data value of the node's variable in that column.
-/
module

public import proofs.«01_k».proof.Proof.Gen.ReferenceIdeal
public import Idealize.ShloMosaic.Lib.Claim
public import Idealize.ShloMosaic.Lib.Quiescent
public import Idealize.ShloMosaic.PureOps.Ideal
public import Idealize.ShloMosaic.Lib.Pipeline.Value
public import Idealize.ShloMosaic.Lib.ReduceAll
public import Idealize.ShloMosaic.Lib.Affine
public import Idealize.ShloMosaic.Lib.ValueIdxCore
public import Idealize.ShloMosaic.Lib.Routing.OpsSet

@[expose] public section

set_option maxRecDepth 65536

noncomputable section

namespace Cert.RefVal

open Cert.ReferenceIdeal Cert.ReferenceIdeal.Gen
open Idealize.ShloMosaic Idealize.ShloMosaic.TcCoe
open Idealize.ShloMosaic.ValueIdx (ix1 ix2 idx2_lt0 idx2_lt1)

/-- The row of an index of the result; -/
def row (y : S32768x1024.Idx) : Fin 32768 := y 0
/-- its column; -/
def col (y : S32768x1024.Idx) : Fin 1024 := y 1
/-- for the first gather, the row of a start index; -/
def row1 (y : S32768x1.Idx) : Fin 32768 := y 0
/-- for the second gather, the row of a start index, -/
def row3 (y : S32768x1024x1.Idx) : Fin 32768 := y 0
/-- and its column. -/
def col3 (y : S32768x1024x1.Idx) : Fin 1024 := y 1

/-- An index of the result is that of its row and column. -/
theorem ix2_row_col (y : S32768x1024.Idx) : ix2 (row y) (col y) = y := (ValueIdx.eq_ix2 y).symm

/-! ## Words in a range -/

/-- A word below `2 ^ 31` reads the same signed and unsigned. -/
theorem toInt_small {x : BitVec 32} (h : x.toNat < 2 ^ 31) : x.toInt = x.toNat := by
  rw [BitVec.toInt_eq_toNat_cond, if_pos (by omega)]

/-- A word below `k + 1` passes the test `0 ≤ x ≤ k`. -/
theorem within {x : BitVec 32} {k : ℕ} (hk : k < 2 ^ 31) (h : x.toNat < k + 1) :
    IntOp.andi (IntOp.cmpi .sge x 0#32) (IntOp.cmpi .sle x (BitVec.ofNat 32 k)) = 1#1 := by
  have hx := toInt_small (x := x) (by omega)
  have e : (BitVec.ofNat 32 k).toNat = k := by rw [BitVec.toNat_ofNat]; exact Nat.mod_eq_of_lt (by omega)
  have ek := toInt_small (x := BitVec.ofNat 32 k) (by omega)
  rw [e] at ek
  have p : IntOp.cmpi .sge x 0#32 = 1#1 := IntOp.cmpi_sge.2 (by rw [hx, BitVec.toInt_zero]; omega)
  have q : IntOp.cmpi .sle x (BitVec.ofNat 32 k) = 1#1 := IntOp.cmpi_sle.2 (by rw [hx, ek]; omega)
  rw [p, q]
  rfl

/-- A word below `2 ^ 31` is not negative, so wrapping the negative ones leaves it. -/
theorem wrap_id {x a : BitVec 32} (h : x.toNat < 2 ^ 31) : Scalar.select (IntOp.cmpi .slt x 0#32) a x = x :=
  Routing.wrap_of_lt x a h

variable {α : Type}

/-! ## Rows by their number -/

section Rows
variable (w : IVec S32768 32) (hw : ∀ x, (w x).toNat < 64)

/-- The row numbers as the reference hands them to its gather: negative ones wrapped, one per row. -/
def rowNo : IVec S32768x1 32 :=
  broadcastInDim S32768x1 ![0] bcast_S32768_S32768x1_0
    (select (cmpi .slt w (broadcastInDim S32768 ![] bcast_S_S32768 (constantI S_ 32 0#32)))
      (addi w (broadcastInDim S32768 ![] bcast_S_S32768 (constantI S_ 32 64#32))) w)

include hw in
/-- A row number in range is handed on as it is, -/
theorem rowNo_apply (y : S32768x1.Idx) : rowNo w y = w (ix1 (row1 y)) := by
  have e : rowNo w y = Scalar.select (IntOp.cmpi .slt (w (ix1 (row1 y))) 0#32) (IntOp.addi (w (ix1 (row1 y))) 64#32) (w (ix1 (row1 y))) := by
    refine broadcastInDim_apply _ _ _ y (ix1 (row1 y)) fun a => ?_
    obtain rfl : a = 0 := Subsingleton.elim _ _
    rfl
  rw [e]
  exact wrap_id (lt_trans (hw _) (by decide))

/-- The test that a row number is in range. -/
def rowOk : IVec S32768x1 1 :=
  andi (cmpi .sge (rowNo w) (broadcastInDim S32768x1 ![] bcast_S_S32768x1 (constantI S_ 32 0#32)))
    (cmpi .sle (rowNo w) (broadcastInDim S32768x1 ![0, 1] bcast_S1x1_S32768x1_0_1 (broadcastInDim S1x1 ![1] bcast_S1_S1x1_1 (constantI S1 32 63#32))))

include hw in
/-- and passes the test. -/
theorem rowOk_one (y : S32768x1.Idx) : rowOk w y = 1#1 := by
  have e : rowOk w y = IntOp.andi (IntOp.cmpi .sge (rowNo w y) 0#32) (IntOp.cmpi .sle (rowNo w y) (BitVec.ofNat 32 63)) := rfl
  rw [e, rowNo_apply w hw]
  exact within (by decide) (hw _)

/-- The reference's `x[w]`, its out-of-range rows filled. -/
def rowsOf (x : IVec S64x1024 32) : IVec S32768x1024 32 :=
  select (broadcastInDim S32768x1024 ![0] bcast_S32768_S32768x1024_0
      (Host.reduce IntOp.andi (rowOk w) (constantI S_ 1 1#1) reducesTo_S32768x1_S32768_d1 h_S_))
    (Host.gather gather_S64x1024_S32768x1_S32768x1024_1_0_n_n_0_1_11024 x (rowNo w))
    (broadcastInDim S32768x1024 ![] bcast_S_S32768x1024 (constantI S_ 32 2147483648#32))

/-- A gather of whole rows at a result index: the operand at the row number there, read signed and clamped, and the column. -/
theorem gather_rows (x : S64x1024.Idx → α) (idx : IVec S32768x1 32) (y : S32768x1024.Idx) :
    Host.gather gather_S64x1024_S32768x1_S32768x1024_1_0_n_n_0_1_11024 x idx y
      = x (ix2 ⟨min (idx (ix2 (row y) 0)).toInt.toNat 63, by omega⟩ (col y)) := by
  unfold Host.gather
  refine congrArg x (funext fun a => Fin.ext ?_)
  show gather_S64x1024_S32768x1_S32768x1024_1_0_n_n_0_1_11024.start y idx a
      + gather_S64x1024_S32768x1_S32768x1024_1_0_n_n_0_1_11024.batchCoord y a
      + gather_S64x1024_S32768x1_S32768x1024_1_0_n_n_0_1_11024.offCoord y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S64x1024_S32768x1_S32768x1024_1_0_n_n_0_1_11024.startIndexMap from List.mem_singleton.mpr rfl)]
    have hsi : gather_S64x1024_S32768x1_S32768x1024_1_0_n_n_0_1_11024.siIdx y
        ⟨List.idxOf (0 : Fin 2) gather_S64x1024_S32768x1_S32768x1024_1_0_n_n_0_1_11024.startIndexMap,
          List.idxOf_lt_length_iff.2 (List.mem_singleton.mpr rfl)⟩ = ix2 (row y) 0 := by
      funext b
      refine Fin.ext ?_
      match b with
      | ⟨0, _⟩ => rfl
      | ⟨1, _⟩ => rfl
    rw [hsi]
    rfl
  · unfold GatherDims.start
    rw [dif_neg (show (1 : Fin 2) ∉ gather_S64x1024_S32768x1_S32768x1024_1_0_n_n_0_1_11024.startIndexMap from by decide)]
    rw [Nat.zero_add]
    rfl

include hw in
/-- The rows by their number: row `y 0` of the result is the row of `x` that `w` names. -/
theorem rowsOf_apply (x : IVec S64x1024 32) (y : S32768x1024.Idx) :
    rowsOf w x y = x (ix2 ⟨(w (ix1 (row y))).toNat, hw _⟩ (col y)) := by
  have hr (j : S32768.Idx) : Host.reduce IntOp.andi (rowOk w) (constantI S_ 1 1#1) reducesTo_S32768x1_S32768_d1 h_S_ j = 1#1 :=
    Host.reduce_andi_one _ _ _ _ _ rfl (rowOk_one w hw)
  have e : rowsOf w x y = Scalar.select 1#1 (Host.gather gather_S64x1024_S32768x1_S32768x1024_1_0_n_n_0_1_11024 x (rowNo w) y) 2147483648#32 := by
    show Scalar.select (Host.reduce IntOp.andi (rowOk w) (constantI S_ 1 1#1) reducesTo_S32768x1_S32768_d1 h_S_ _) _ _ = _
    rw [hr]
    rfl
  rw [e, ValueIdx.select_one, gather_rows]
  have hn := hw (ix1 (row y))
  refine congrArg x (congrArg (fun q => ix2 q (col y)) (Fin.ext ?_))
  show min (rowNo w (ix2 (row y) 0)).toInt.toNat 63 = (w (ix1 (row y))).toNat
  rw [rowNo_apply w hw]
  show min (w (ix1 (row y))).toInt.toNat 63 = (w (ix1 (row y))).toNat
  rw [toInt_small (by omega)]
  omega

end Rows

/-! ## Elements by their position -/

section Elements
variable (k : IVec S32768x1024 32) (hk : ∀ y, (k y).toNat < 8388608)

/-- The positions as the reference hands them to its gather: negative ones wrapped. -/
def posNo : IVec S32768x1024x1 32 :=
  broadcastInDim S32768x1024x1 ![0, 1] bcast_S32768x1024_S32768x1024x1_0_1
    (select (cmpi .slt k (broadcastInDim S32768x1024 ![] bcast_S_S32768x1024 (constantI S_ 32 0#32)))
      (addi k (broadcastInDim S32768x1024 ![] bcast_S_S32768x1024 (constantI S_ 32 8388608#32))) k)

include hk in
/-- A position in range is handed on as it is, -/
theorem posNo_apply (y : S32768x1024x1.Idx) : posNo k y = k (ix2 (row3 y) (col3 y)) := by
  have e : posNo k y = Scalar.select (IntOp.cmpi .slt (k (ix2 (row3 y) (col3 y))) 0#32) (IntOp.addi (k (ix2 (row3 y) (col3 y))) 8388608#32) (k (ix2 (row3 y) (col3 y))) := by
    refine broadcastInDim_apply _ _ _ y (ix2 (row3 y) (col3 y)) fun a => ?_
    match a with
    | ⟨0, _⟩ => rfl
    | ⟨1, _⟩ => rfl
  rw [e]
  exact wrap_id (lt_trans (hk _) (by decide))

/-- The test that a position is in range. -/
def posOk : IVec S32768x1024x1 1 :=
  andi (cmpi .sge (posNo k) (broadcastInDim S32768x1024x1 ![] bcast_S_S32768x1024x1 (constantI S_ 32 0#32)))
    (cmpi .sle (posNo k) (broadcastInDim S32768x1024x1 ![0, 1, 2] bcast_S1x1x1_S32768x1024x1_0_1_2
      (broadcastInDim S1x1x1 ![2] bcast_S1_S1x1x1_2 (constantI S1 32 8388607#32))))

include hk in
/-- and passes the test. -/
theorem posOk_one (y : S32768x1024x1.Idx) : posOk k y = 1#1 := by
  have e : posOk k y = IntOp.andi (IntOp.cmpi .sge (posNo k y) 0#32) (IntOp.cmpi .sle (posNo k y) (BitVec.ofNat 32 8388607)) := rfl
  rw [e, posNo_apply k hk]
  exact within (by decide) (hk _)

/-- The reference's `p[k]`, its out-of-range elements filled. -/
def elemsOf (p : FVec Ideal S8388608 .f32) : FVec Ideal S32768x1024 .f32 :=
  select (Host.reduce IntOp.andi (posOk k) (constantI S_ 1 1#1) reducesTo_S32768x1024x1_S32768x1024_d2 h_S_)
    (Host.gather gather_S8388608_S32768x1024x1_S32768x1024_n_0_n_n_0_2_1 p (posNo k))
    (broadcastInDim S32768x1024 ![] bcast_S_S32768x1024 (constant S_ .f32 0x7FC00000#32))

include hk in
/-- The elements by their position: the result at `y` is `p` at the position `k y`. -/
theorem elemsOf_apply (p : FVec Ideal S8388608 .f32) (y : S32768x1024.Idx) : elemsOf k p y = p (ix1 ⟨(k y).toNat, hk y⟩) := by
  have hr : Host.reduce IntOp.andi (posOk k) (constantI S_ 1 1#1) reducesTo_S32768x1024x1_S32768x1024_d2 h_S_ y = 1#1 :=
    Host.reduce_andi_one _ _ _ _ _ rfl (posOk_one k hk)
  have e : elemsOf k p y = Host.gather gather_S8388608_S32768x1024x1_S32768x1024_n_0_n_n_0_2_1 p (posNo k) y := by
    unfold elemsOf
    rw [ValueIdx.select_apply, hr, ValueIdx.select_one]
  rw [e]
  refine (ValueIdx.gather_take_apply (N := 8388608) (R := 32768) (C := 1024) (by decide) gather_S8388608_S32768x1024x1_S32768x1024_n_0_n_n_0_2_1_wf p (posNo k) y).trans ?_
  refine congrArg p (congrArg ix1 (Fin.ext ?_))
  have hn := hk y
  show min (posNo k (ValueIdx.takeIdx y)).toInt.toNat (8388608 - 1) = (k y).toNat
  rw [posNo_apply k hk]
  show min (k (ix2 (row y) (col y))).toInt.toNat (8388608 - 1) = (k y).toNat
  rw [ix2_row_col, toInt_small (by omega)]
  omega

end Elements

/-! ## The whole overwritten -/

/-- A scatter of one window as large as the operand is the updates. -/
theorem scatter_all (x u : S32768x1024.Idx → α) (e : IVec S0 32) :
    Host.scatter scatter_S32768x1024_S0_S32768x1024_01_n_n_0 (fun _ b => b) x e u = u := by
  have hl (j ι : S32768x1024.Idx) : scatter_S32768x1024_S0_S32768x1024_01_n_n_0.resultIdx? j e = some ι ↔ j = ι := by
    rw [Routing.resultIdx?_eq_some]
    have hs (a : Fin 2) : scatter_S32768x1024_S0_S32768x1024_01_n_n_0.start j e a = 0 := by
      unfold ScatterDims.start
      exact dif_neg List.not_mem_nil
    have hwin (a : Fin 2) : scatter_S32768x1024_S0_S32768x1024_01_n_n_0.window j a = (j a).val := by
      match a with
      | ⟨0, _⟩ => rfl
      | ⟨1, _⟩ => rfl
    constructor
    · intro h
      funext a
      have := h a
      rw [hs a, hwin a] at this
      exact Fin.ext (by omega)
    · rintro rfl a
      rw [hs a, hwin a]
      omega
  funext y
  exact Routing.scatter_set_hit _ x e u y (u y) (fun j h => congrArg u ((hl j y).1 h)) y ((hl y y).2 rfl)

/-! ## The result -/

/-- The position of each result element's parameter. -/
def ids (x : IVec S64x1024 32) (w o : IVec S32768 32) : IVec S32768x1024 32 :=
  addi (rowsOf w x) (broadcastInDim S32768x1024 ![0, 1] bcast_S32768x1_S32768x1024_0_1 (broadcastInDim S32768x1 ![0] bcast_S32768_S32768x1_0 o))

section Result
variable (x : IVec S64x1024 32) (w o : IVec S32768 32)
variable (hx : ∀ y, (x y).toNat < 256) (hw : ∀ y, (w y).toNat < 64) (ho : ∀ y, o y = IntOp.muli (BitVec.ofNat 32 (y 0).val) 256#32)

include hx ho in
/-- A parameter's position is its node's start and the category of the node's variable at the column. -/
theorem ids_toNat (y : S32768x1024.Idx) : (ids x w o y).toNat = (row y).val * 256 + (x (ix2 ⟨(w (ix1 (row y))).toNat, hw _⟩ (col y))).toNat := by
  have e : ids x w o y = IntOp.addi (rowsOf w x y) (o (ix1 (row y))) := by
    refine congrArg (IntOp.addi (rowsOf w x y)) ?_
    refine (broadcastInDim_apply _ _ _ y (ix2 (row y) 0) fun a => ?_).trans (broadcastInDim_apply _ _ _ _ (ix1 (row y)) fun a => ?_)
    · match a with
      | ⟨0, _⟩ => rfl
      | ⟨1, _⟩ => rfl
    · obtain rfl : a = 0 := Subsingleton.elim _ _
      rfl
  have hb := hx (ix2 ⟨(w (ix1 (row y))).toNat, hw _⟩ (col y))
  have hy : (row y).val < 32768 := (row y).isLt
  rw [e, rowsOf_apply w hw, ho]
  generalize (x (ix2 ⟨(w (ix1 (row y))).toNat, hw _⟩ (col y))) = v at hb ⊢
  show (v + BitVec.ofNat 32 (row y).val * 256#32).toNat = _
  generalize (row y).val = n at hy ⊢
  rw [BitVec.toNat_add, BitVec.toNat_mul, BitVec.toNat_ofNat, BitVec.toNat_ofNat]
  omega

include hx hw ho in
/-- It is in range. -/
theorem ids_lt (y : S32768x1024.Idx) : (ids x w o y).toNat < 8388608 := by
  rw [ids_toNat x w o hx hw ho]
  have hb := hx (ix2 ⟨(w (ix1 (row y))).toNat, hw _⟩ (col y))
  have hy : (row y).val < 32768 := (row y).isLt
  omega

end Result

section Run
variable (m : (ℓ : Loc nD τ sig) → Buf (Elt Ideal) ℓ) (c : Dev nD)

/-- What the reference leaves in its result, of the arguments. -/
@[irreducible] def res : FVec Ideal S32768x1024 .f32 :=
  Host.scatter scatter_S32768x1024_S0_S32768x1024_01_n_n_0 (fun _ b => b) (m ((c.tc : Thread nD τ).loc main_arg1) : FVec Ideal S32768x1024 .f32)
    (emptyVec S0 hz_S0 : IVec S0 32)
    (Host.log (elemsOf (ids (m ((c.tc : Thread nD τ).loc main_arg0)) (m ((c.tc : Thread nD τ).loc main_arg3)) (m ((c.tc : Thread nD τ).loc main_arg4)))
      (m ((c.tc : Thread nD τ).loc main_arg2))))

/-- It under the ranges, at row `y 0` and column `y 1`. -/
theorem res_apply
    (hx : ∀ y, ((m ((c.tc : Thread nD τ).loc main_arg0) : IVec S64x1024 32) y).toNat < 256)
    (hw : ∀ y, ((m ((c.tc : Thread nD τ).loc main_arg3) : IVec S32768 32) y).toNat < 64)
    (ho : ∀ y, (m ((c.tc : Thread nD τ).loc main_arg4) : IVec S32768 32) y = IntOp.muli (BitVec.ofNat 32 (y 0).val) 256#32) (y : S32768x1024.Idx) :
    res m c y
      = Ideal.log ((m ((c.tc : Thread nD τ).loc main_arg2) : FVec Ideal S8388608 .f32)
          (ix1 ⟨_, ids_lt (m ((c.tc : Thread nD τ).loc main_arg0)) (m ((c.tc : Thread nD τ).loc main_arg3)) (m ((c.tc : Thread nD τ).loc main_arg4)) hx hw ho y⟩)) := by
  have e : res m c = Host.log (elemsOf (ids (m ((c.tc : Thread nD τ).loc main_arg0)) (m ((c.tc : Thread nD τ).loc main_arg3)) (m ((c.tc : Thread nD τ).loc main_arg4)))
      (m ((c.tc : Thread nD τ).loc main_arg2))) := by
    unfold res
    exact scatter_all _ _ _
  have el (x : FVec Ideal S32768x1024 .f32) : Host.log x y = Ideal.log (x y) := rfl
  rw [e, el, elemsOf_apply _ (ids_lt _ _ _ hx hw ho)]

/-- The reference runs, leaves `res` in its result and its arguments alone. -/
theorem run (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD, r.2.mem ((c.tc : Thread nD τ).loc main_v6) = res m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) := by
  hlo_run
  simp only [StableHlo.TRef.ofBuf_toBuf]
  simp only [StableHlo.TRef.toBuf, StableHlo.TRef.ofBuf, cast_eq]
  unfold res elemsOf ids rowsOf
  unfold posOk posNo rowOk rowNo
  rfl

end Run

end Cert.RefVal
-- ==== Proof.Equal.lean ====
/-
  The idealized kernel's result is the reference's, element by element.
-/
module

public import proofs.«01_k».proof.Proof.IdealValues
public import proofs.«01_k».proof.Proof.Ref

@[expose] public section

set_option maxRecDepth 65536

noncomputable section

namespace Cert.KernelIdeal.Tile

open Cert.KernelIdeal Cert.KernelIdeal.Gen
open Idealize.ShloMosaic Idealize.ShloMosaic.TcCoe
open Idealize.ShloMosaic.ValueIdx (ix1 ix2)
open Cert.RefVal (row col ids ids_lt ids_toNat)

variable (x : Vec Ideal S64x1024 .i32) (va : Vec Ideal S32768 .i32) (p : Vec Ideal S8388608 .f32)

/-- A one-dimensional index by its value. -/
theorem pos_ix1 {N : ℕ} (h : ∀ a, 0 < (⟨1, ![N]⟩ : Shape).size a) (n : Fin N) : pos ⟨1, ![N]⟩ h n.val = ix1 n := by
  refine pos_of_val h fun a => ?_
  obtain rfl : a = 0 := Subsingleton.elim _ _
  rfl

/-- The parameters split in rows, their logarithms taken and joined again: the logarithm at each position. -/
theorem logs_apply (q : S8388608.Idx) :
    shapeCast S8388608 (log (F := Ideal) (s := S32768x256) (φ := .f32) (shapeCast S32768x256 p shapeCasts_S8388608_S32768x256)) shapeCasts_S32768x256_S8388608 q
      = Ideal.log (p q) := by
  have e : shapeCast S8388608 (shapeCast S32768x256 p shapeCasts_S8388608_S32768x256) shapeCasts_S32768x256_S8388608 = p := shapeCast_shapeCast _ _ _
  exact congrArg Ideal.log (congrFun e q)

/-- The data joined in one row, at the position of a row and a column. -/
theorem data_apply (r : Fin 64) (c : Fin 1024) : shapeCast S65536 x shapeCasts_S64x1024_S65536 (pData (r.val * 1024 + c.val)) = x (ix2 r c) := by
  refine shapeCast_apply x _ _ (ix2 r c) ?_
  have hl : r.val * 1024 + c.val < 65536 := by omega
  have ep : pData (r.val * 1024 + c.val) = ix1 ⟨_, hl⟩ := pos_ix1 _ ⟨_, hl⟩
  rw [ep, Shape.rowMajor_val_one, Shape.rowMajor_val_two]
  rfl

/-- The kernel's result at row and column `y`. -/
theorem outOf_apply (hw : ∀ y, (va y).toNat < 64) (y : S32768x1024.Idx) :
    outOf x va p y = Ideal.log (p (pPar ((row y).val * 256 + (x (ix2 ⟨(va (ix1 (row y))).toNat, hw _⟩ (col y))).toNat))) := by
  have hl : (row y).val * 1024 + (col y).val < 33554432 := by have := (row y).isLt; have := (col y).isLt; omega
  have e : outOf x va p y = whole (shapeCast S65536 x shapeCasts_S64x1024_S65536) va
      (shapeCast S8388608 (log (F := Ideal) (s := S32768x256) (φ := .f32) (shapeCast S32768x256 p shapeCasts_S8388608_S32768x256)) shapeCasts_S32768x256_S8388608)
      (ix1 ⟨_, hl⟩) := by
    unfold outOf
    refine shapeCast_apply _ _ y (ix1 ⟨_, hl⟩) ?_
    rw [Shape.rowMajor_val_one, Shape.rowMajor_val_two]
    rfl
  rw [e]
  unfold whole
  rw [logs_apply]
  have hr : ((row y).val * 1024 + (col y).val) / 1024 = (row y).val := by have := (col y).isLt; omega
  have hc : ((row y).val * 1024 + (col y).val) % 1024 = (col y).val := by have := (col y).isLt; omega
  show Ideal.log (p (pPar (((row y).val * 1024 + (col y).val) / 1024 * 256
    + (shapeCast S65536 x shapeCasts_S64x1024_S65536 (pData ((va (pAll (((row y).val * 1024 + (col y).val) / 1024))).toNat * 1024
      + ((row y).val * 1024 + (col y).val) % 1024))).toNat))) = _
  rw [hr, hc]
  have ea : pAll (row y).val = ix1 (row y) := pos_ix1 _ (row y)
  rw [ea]
  have ed := data_apply x ⟨(va (ix1 (row y))).toNat, hw _⟩ (col y)
  rw [← ed]

/-- The reference's result at memory `m'` is the kernel's of the same arrays. -/
theorem res_eq (m' : (ℓ : Loc Cert.ReferenceIdeal.nD Cert.ReferenceIdeal.τ Cert.ReferenceIdeal.sig) → Buf (Elt Ideal) ℓ) (c : Dev Cert.ReferenceIdeal.nD)
    (hx : ∀ y, ((m' ((c.tc : Thread _ _).loc Cert.ReferenceIdeal.main_arg0) : IVec S64x1024 32) y).toNat < 256)
    (hw : ∀ y, ((m' ((c.tc : Thread _ _).loc Cert.ReferenceIdeal.main_arg3) : IVec S32768 32) y).toNat < 64)
    (ho : ∀ y, (m' ((c.tc : Thread _ _).loc Cert.ReferenceIdeal.main_arg4) : IVec S32768 32) y = IntOp.muli (BitVec.ofNat 32 (y 0).val) 256#32) :
    (Cert.RefVal.res m' c : FVec Ideal S32768x1024 .f32)
      = outOf (m' ((c.tc : Thread _ _).loc Cert.ReferenceIdeal.main_arg0)) (m' ((c.tc : Thread _ _).loc Cert.ReferenceIdeal.main_arg3))
          (m' ((c.tc : Thread _ _).loc Cert.ReferenceIdeal.main_arg2)) := by
  funext y
  refine (Cert.RefVal.res_apply m' c hx hw ho y).trans ((congrArg Ideal.log (congrArg _ ?_)).trans (outOf_apply _ _ _ hw y).symm)
  rw [← ids_toNat _ _ _ hx hw ho y]
  exact (pos_ix1 _ ⟨_, ids_lt _ _ _ hx hw ho y⟩).symm

end Cert.KernelIdeal.Tile
-- ==== Proof.lean ====
/-
  The certificate of the SparseCore gather kernel, assembled: the kernel and its idealization run and leave the arguments and
  the semaphores as they were (Main, Values and their idealized forms); so does the reference (Ref); and the idealized kernel
  and the reference leave the same result (Equal).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_indices
public import proofs.«01_k».proof.Proof.Gen.Pre_ranges
public import proofs.«01_k».proof.Proof.Values
public import proofs.«01_k».proof.Proof.IdealValues
public import proofs.«01_k».proof.Proof.Pre
public import proofs.«01_k».proof.Proof.Ref
public import proofs.«01_k».proof.Proof.Equal
public import Idealize.ShloMosaic.Adequacy
public import Idealize.ShloMosaic.Init
public import Idealize.ShloMosaic.Lib.Quiescent

@[expose] public section

set_option maxRecDepth 65536

noncomputable section

namespace Cert.Proof

open Idealize.ShloMosaic Idealize.ShloMosaic.TcCoe Idealize.SL.Sem
open Idealize.ShloMosaic.Pipeline (ucRefs)

/-- The kernel with its indices in range runs, its arguments and every semaphore as they were. -/
theorem frame_kernel : Cert.quiescent_Kernel := by
  intro m g hpre
  have hm : Cert.Kernel.Tile.InRange m :=
    Cert.Kernel.Tile.inRange_of m (fun d => (Cert.Pre.decode_indices (hpre d)).1) fun d => (Cert.Pre.decode_indices (hpre d)).2
  refine (θ_run Cert.Kernel.defs _ _).mono (fun r h => ⟨fun c => ?_, h.2⟩) (Cert.Kernel.Tile.run_main m g hm)
  exact ⟨(h.1 c (Proc.devRef .tc Cert.Kernel.main_arg0) (by decide)).trans (Cert.Kernel.Tile.V6_kept m c (b := Cert.Kernel.main_arg0) (by decide)),
    (h.1 c (Proc.devRef .tc Cert.Kernel.main_arg1) (by decide)).trans (Cert.Kernel.Tile.V6_kept m c (b := Cert.Kernel.main_arg1) (by decide)),
    (h.1 c (Proc.devRef .tc Cert.Kernel.main_arg2) (by decide)).trans (Cert.Kernel.Tile.V6_kept m c (b := Cert.Kernel.main_arg2) (by decide)),
    (h.1 c (Proc.devRef .tc Cert.Kernel.main_arg3) (by decide)).trans (Cert.Kernel.Tile.V6_kept m c (b := Cert.Kernel.main_arg3) (by decide)),
    (h.1 c (Proc.devRef .tc Cert.Kernel.main_arg4) (by decide)).trans (Cert.Kernel.Tile.V6_kept m c (b := Cert.Kernel.main_arg4) (by decide))⟩

/-- The idealized kernel with its indices in range: its result is `outOf` of the arguments, which stay, and every semaphore is back at zero. -/
theorem run_ideal (m : (ℓ : Loc Cert.KernelIdeal.nD Cert.KernelIdeal.τ Cert.KernelIdeal.sig) → Buf (Elt Ideal) ℓ) (g : Dev Cert.KernelIdeal.nD → PrngReg)
    (hm : Cert.KernelIdeal.Tile.InRange m) :
    θ_run (Cert.KernelIdeal.defs (F := Ideal)) (Cert.KernelIdeal.threads (F := Ideal)) ⟨m, fun _ => 0, g⟩ (fun r =>
      (∀ c : Dev Cert.KernelIdeal.nD,
        r.2.mem ((c.tc : Thread _ _).loc Cert.KernelIdeal.main_v5)
          = Cert.KernelIdeal.Tile.outOf (m ((c.tc : Thread _ _).loc Cert.KernelIdeal.main_arg0)) (m ((c.tc : Thread _ _).loc Cert.KernelIdeal.main_arg3))
              (m ((c.tc : Thread _ _).loc Cert.KernelIdeal.main_arg2))
        ∧ r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)
        ∧ r.2.mem ((c.tc : Thread _ _).loc Cert.KernelIdeal.main_arg2) = m ((c.tc : Thread _ _).loc Cert.KernelIdeal.main_arg2)
        ∧ r.2.mem ((c.tc : Thread _ _).loc Cert.KernelIdeal.main_arg3) = m ((c.tc : Thread _ _).loc Cert.KernelIdeal.main_arg3)
        ∧ r.2.mem ((c.tc : Thread _ _).loc Cert.KernelIdeal.main_arg4) = m ((c.tc : Thread _ _).loc Cert.KernelIdeal.main_arg4))
      ∧ r.2.sem = fun _ => 0) := by
  refine (θ_run Cert.KernelIdeal.defs _ _).mono (fun r h => ⟨fun c => ?_, h.2⟩) (Cert.KernelIdeal.Tile.run_main m g hm)
  exact ⟨(h.1 c (Proc.devRef .tc Cert.KernelIdeal.main_v5) (by decide)).trans (Cert.KernelIdeal.Tile.V6_out m c),
    (h.1 c (Proc.devRef .tc Cert.KernelIdeal.main_arg0) (by decide)).trans (Cert.KernelIdeal.Tile.V6_kept m c (b := Cert.KernelIdeal.main_arg0) (by decide)),
    (h.1 c (Proc.devRef .tc Cert.KernelIdeal.main_arg1) (by decide)).trans (Cert.KernelIdeal.Tile.V6_kept m c (b := Cert.KernelIdeal.main_arg1) (by decide)),
    (h.1 c (Proc.devRef .tc Cert.KernelIdeal.main_arg2) (by decide)).trans (Cert.KernelIdeal.Tile.V6_kept m c (b := Cert.KernelIdeal.main_arg2) (by decide)),
    (h.1 c (Proc.devRef .tc Cert.KernelIdeal.main_arg3) (by decide)).trans (Cert.KernelIdeal.Tile.V6_kept m c (b := Cert.KernelIdeal.main_arg3) (by decide)),
    (h.1 c (Proc.devRef .tc Cert.KernelIdeal.main_arg4) (by decide)).trans (Cert.KernelIdeal.Tile.V6_kept m c (b := Cert.KernelIdeal.main_arg4) (by decide))⟩

/-- The indices in range, from `indices`, -/
theorem range_indices {m : (ℓ : Loc Cert.KernelIdeal.nD Cert.KernelIdeal.τ Cert.KernelIdeal.sig) → Buf (Elt Ideal) ℓ} (hpre : Cert.Pre_KernelIdeal m) :
    Cert.KernelIdeal.Tile.InRange m :=
  Cert.KernelIdeal.Tile.inRange_of m (fun d => (Cert.Pre.decode_indices (hpre d)).1) fun d => (Cert.Pre.decode_indices (hpre d)).2

/-- and from `ranges`. -/
theorem range_ranges {m : (ℓ : Loc Cert.KernelIdeal.nD Cert.KernelIdeal.τ Cert.KernelIdeal.sig) → Buf (Elt Ideal) ℓ} (hpre : Cert.Pre_KernelIdeal_ranges m) :
    Cert.KernelIdeal.Tile.InRange m :=
  Cert.KernelIdeal.Tile.inRange_of m (fun d => (Cert.Pre.decode_ranges (hpre d)).1) fun d => (Cert.Pre.decode_ranges (hpre d)).2.1

/-- The idealized kernel with its indices in range runs, its arguments and every semaphore as they were; -/
theorem frame_ideal : Cert.quiescent_KernelIdeal := fun m g hpre =>
  (θ_run Cert.KernelIdeal.defs _ _).mono (fun _ h => ⟨fun c => (h.1 c).2, h.2⟩) (run_ideal m g (range_indices hpre))

/-- so it does under `ranges`. -/
theorem frame_ideal_ranges : Cert.quiescent_KernelIdeal_pre_ranges := fun m g hpre =>
  (θ_run Cert.KernelIdeal.defs _ _).mono (fun _ h => ⟨fun c => (h.1 c).2, h.2⟩) (run_ideal m g (range_ranges hpre))

/-- The reference runs, its arguments as they were; it has no semaphore. -/
theorem frame_reference : Cert.quiescent_ReferenceIdeal := fun m g _ =>
  (θ_run Cert.ReferenceIdeal.defs _ _).mono (fun r h => ⟨fun c => (h c).2, sem_eq_zero_of_no_sems (by decide) r.2⟩) (Cert.RefVal.run m g)

/-- So it does under `ranges`. -/
theorem frame_reference_ranges : Cert.quiescent_ReferenceIdeal_pre_ranges := fun m g _ =>
  (θ_run Cert.ReferenceIdeal.defs _ _).mono (fun r h => ⟨fun c => (h c).2, sem_eq_zero_of_no_sems (by decide) r.2⟩) (Cert.RefVal.run m g)

/-- From the same arguments under `ranges`, the idealized kernel and the reference leave the same result. -/
theorem equal : Cert.algebraic_KernelIdeal_ReferenceIdeal_pre_ranges := by
  intro m g m' g' hpre hagree
  refine ⟨_, (θ_run Cert.KernelIdeal.defs _ _).mono (fun _ h => h.1) (run_ideal m g (range_ranges hpre)), ?_⟩
  refine (θ_run Cert.ReferenceIdeal.defs _ _).mono (fun r h c => ⟨(h c).1.trans ?_, (h c).2⟩) (Cert.RefVal.run m' g')
  obtain ⟨e0, -, e2, e3, e4⟩ := hagree c
  obtain ⟨hx, hw, ho⟩ := Cert.Pre.decode_ranges (hpre c)
  have e := Cert.KernelIdeal.Tile.res_eq m' c (by rw [e0]; exact hx) (by rw [e3]; exact hw) (by rw [e4]; exact ho)
  rw [e0, e2, e3] at e
  exact e

/-- All of the claims. -/
theorem claim : Cert.Claim := ⟨Cert.Kernel.Gen.facts, Cert.KernelIdeal.Gen.facts, Cert.ReferenceIdeal.Gen.facts, Cert.Pre_indices.Gen.facts,
  Cert.Pre_ranges.Gen.facts, frame_kernel, frame_ideal, frame_ideal_ranges, frame_reference, frame_reference_ranges, trivial, equal⟩

end Cert.Proof

end
